-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Weights (m : (ℓ : Loc Cert.Weights.nD Cert.Weights.τ Cert.Weights.sig) → Buf (Elt Bits) ℓ) : Prop :=
  True

def Pre_Pool [hPre_starts_in_range : Cert.Pre_starts_in_range.Facts] (m : (ℓ : Loc Cert.Pool.nD Cert.Pool.τ Cert.Pool.sig) → Buf (Elt Bits) ℓ) : Prop :=
  ∀ c : Dev Cert.Pool.nD,
    (Cert.Pre_starts_in_range.fn (F := Bits) (m ((c.tc : Thread Cert.Pool.nD Cert.Pool.τ).loc Cert.Pool.main_arg0)) (m ((c.tc : Thread Cert.Pool.nD Cert.Pool.τ).loc Cert.Pool.main_arg1)) (m ((c.tc : Thread Cert.Pool.nD Cert.Pool.τ).loc Cert.Pool.main_arg2)) (m ((c.tc : Thread Cert.Pool.nD Cert.Pool.τ).loc Cert.Pool.main_arg3)) (m ((c.tc : Thread Cert.Pool.nD Cert.Pool.τ).loc Cert.Pool.main_arg4))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1))
      ∧ r.2.sem = fun _ => 0)

def quiescent_Pool [hPool : Cert.Pool.Facts] [hPre_starts_in_range : Cert.Pre_starts_in_range.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hWeights : Cert.Weights.Facts) (hPool : Cert.Pool.Facts) (hPre_starts_in_range : Cert.Pre_starts_in_range.Facts),
    quiescent_KernelIdeal (hKernelIdeal := hKernelIdeal)
    ∧ quiescent_ReferenceIdeal (hReferenceIdeal := hReferenceIdeal)
    ∧ quiescent_Weights (hWeights := hWeights)
    ∧ quiescent_Pool (hPool := hPool) (hPre_starts_in_range := hPre_starts_in_range)
    ∧ algebraic_KernelIdeal_ReferenceIdeal (hKernelIdeal := hKernelIdeal) (hReferenceIdeal := hReferenceIdeal)
-- ==== Pre_starts_in_range.lean ====
abbrev S8192x64 : Shape := ⟨2, ![8192, 64]⟩
abbrev S16x4x128 : Shape := ⟨3, ![16, 4, 128]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S8192x64 .f32) (main_arg1 : IVec S16x4x128 32) (main_arg2 : FVec F S16x4x128 .f32) (main_arg3 : FVec F S16x4x128 .f32) (main_arg4 : IVec S16 32) : IVec S_ 1 :=
  let main_c : IVec S_ 32 := constantI S_ 32 0#32
  let main_v0 : IVec S16 32 := broadcastInDim S16 ![] bcast_S_S16 main_c
  let main_v1 : IVec S16 1 := cmpi .sge main_arg4 main_v0
  let main_c_0 : IVec S_ 32 := constantI S_ 32 8192#32
  let main_v2 : IVec S16 32 := broadcastInDim S16 ![] bcast_S_S16 main_c_0
  let main_v3 : IVec S16 1 := cmpi .sle main_arg4 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== KernelIdeal.lean ====
abbrev S8192x64 : Shape := ⟨2, ![8192, 64]⟩
abbrev S64x1 : Shape := ⟨2, ![64, 1]⟩
abbrev S64x128x64 : Shape := ⟨3, ![64, 128, 64]⟩
abbrev S1x1x64 : Shape := ⟨3, ![1, 1, 64]⟩
abbrev S64x128 : Shape := ⟨2, ![64, 128]⟩
abbrev S128x128 : Shape := ⟨2, ![128, 128]⟩
abbrev S64x64 : Shape := ⟨2, ![64, 64]⟩
abbrev S16x512 : Shape := ⟨2, ![16, 512]⟩
abbrev S_ : Shape := ⟨0, ![]⟩
abbrev S16 : Shape := ⟨1, ![16]⟩
abbrev S16x4x128 : Shape := ⟨3, ![16, 4, 128]⟩
abbrev S8720x64 : Shape := ⟨2, ![8720, 64]⟩
abbrev S512x64 : Shape := ⟨2, ![512, 64]⟩
abbrev S1x4x128 : Shape := ⟨3, ![1, 4, 128]⟩
abbrev S1 : Shape := ⟨1, ![1]⟩
abbrev S528x64 : Shape := ⟨2, ![528, 64]⟩
abbrev S528x128 : Shape := ⟨2, ![528, 128]⟩
abbrev S1x1x128 : Shape := ⟨3, ![1, 1, 128]⟩
abbrev S1x128 : Shape := ⟨2, ![1, 128]⟩
abbrev S128x64 : Shape := ⟨2, ![128, 64]⟩

abbrev nBuf : Space → Nat
  | .hbm => 15
  | .vmem => 14
  | .smem => 1
  | _ => 0

abbrev bufTy : (tb : Table) → Fin (tcTables nBuf tb) → BufTy
  | .hbm, ⟨0, _⟩ => ⟨S8192x64, .f32⟩
  | .hbm, ⟨1, _⟩ => ⟨S64x1, .f32⟩
  | .hbm, ⟨2, _⟩ => ⟨S64x128x64, .f32⟩
  | .hbm, ⟨3, _⟩ => ⟨S1x1x64, .f32⟩
  | .hbm, ⟨4, _⟩ => ⟨S64x128, .f32⟩
  | .hbm, ⟨5, _⟩ => ⟨S64x128, .f32⟩
  | .hbm, ⟨6, _⟩ => ⟨S64x128, .i32⟩
  | .hbm, ⟨7, _⟩ => ⟨S16x512, .i32⟩
  | .hbm, ⟨8, _⟩ => ⟨S_, .i32⟩
  | .hbm, ⟨9, _⟩ => ⟨S16, .i32⟩
  | .hbm, ⟨10, _⟩ => ⟨S16x4x128, .i32⟩
  | .hbm, ⟨11, _⟩ => ⟨S16x4x128, .f32⟩
  | .hbm, ⟨12, _⟩ => ⟨S16x4x128, .f32⟩
  | .hbm, ⟨13, _⟩ => ⟨S8720x64, .f32⟩
  | .hbm, ⟨14, _⟩ => ⟨S8192x64, .f32⟩
  | .local _ .vmem, ⟨0, _⟩ => ⟨S64x128x64, .f32⟩
  | .local _ .vmem, ⟨1, _⟩ => ⟨S1x1x64, .f32⟩
  | .local _ .vmem, ⟨2, _⟩ => ⟨S64x128, .f32⟩
  | .local _ .vmem, ⟨3, _⟩ => ⟨S64x128, .f32⟩
  | .local _ .vmem, ⟨4, _⟩ => ⟨S64x128, .i32⟩
  | .local _ .vmem, ⟨5, _⟩ => ⟨S512x64, .f32⟩
  | .local _ .vmem, ⟨6, _⟩ => ⟨S512x64, .f32⟩
  | .local _ .vmem, ⟨7, _⟩ => ⟨S1x4x128, .i32⟩
  | .local _ .vmem, ⟨8, _⟩ => ⟨S1x4x128, .i32⟩
  | .local _ .vmem, ⟨9, _⟩ => ⟨S1x4x128, .f32⟩
  | .local _ .vmem, ⟨10, _⟩ => ⟨S1x4x128, .f32⟩
  | .local _ .vmem, ⟨11, _⟩ => ⟨S1x4x128, .f32⟩
  | .local _ .vmem, ⟨12, _⟩ => ⟨S1x4x128, .f32⟩
  | .local _ .vmem, ⟨13, _⟩ => ⟨S8720x64, .f32⟩
  | .local _ .smem, ⟨0, _⟩ => ⟨S16, .i32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg5_0 : Ref sig .tc := ⟨.vmem, 13, rfl⟩
abbrev cc1_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14

abbrev nD : Nat := 1
abbrev τ : Topo := Topo.v7x

variable {F : FTy → Type} [FloatOps F]

abbrev grid0 : Pipeline.Grid := .none

abbrev stage0_0 : Fin 1 → Memref sig .tc .vmem S64x128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![16], ![false]⟩

def k1_off1 (i : grid1.Coords) : Fin 1 → Nat :=
  let arg0 : BitVec 32 := BitVec.ofNat 32 (i 0).val
  let v3 : Index := Scalar.indexCast arg0
  ![v3.toNat]
def k1_off2 (v4 : BitVec 32) : Fin 2 → Nat :=
  let c1_i32 : BitVec 32 := 1#32
  let v5 : BitVec 32 := Scalar.maxsi v4 c1_i32
  let c1_i32_1 : BitVec 32 := 1#32
  let v6 : BitVec 32 := Scalar.subi v5 c1_i32_1
  let v113 : Index := Scalar.indexCast v6
  let c0_55 : Index := 0#32
  ![v113.toNat, 0]

def k1_chk1 (v4 : BitVec 32) : Prop :=
  (∀ a, (k1_off2 v4) a + S528x64.size a ≤ S8720x64.size a)
theorem k1_off2_inb : ∀ (v4 : BitVec 32) (k1_hw1 : k1_chk1 v4), ∀ a, (k1_off2 v4) a + S528x64.size a ≤ S8720x64.size a := fun v4 k1_hw1 => k1_hw1

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x4x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .smem S16 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8720x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S8192x64 : Shape := ⟨2, ![8192, 64]⟩
abbrev S64x1 : Shape := ⟨2, ![64, 1]⟩
abbrev S8192x1 : Shape := ⟨2, ![8192, 1]⟩
abbrev S_ : Shape := ⟨0, ![]⟩
abbrev S8192 : Shape := ⟨1, ![8192]⟩
abbrev S1 : Shape := ⟨1, ![1]⟩
abbrev S8191 : Shape := ⟨1, ![8191]⟩
abbrev S8192x8192 : Shape := ⟨2, ![8192, 8192]⟩
abbrev S8192x2 : Shape := ⟨2, ![8192, 2]⟩

abbrev nBuf : Space → Nat
  | .hbm => 73
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S64x1, .f32⟩
  | .hbm, ⟨2, _⟩ => ⟨S8192x1, .f32⟩
  | .hbm, ⟨3, _⟩ => ⟨S8192x1, .f32⟩
  | .hbm, ⟨4, _⟩ => ⟨S8192x1, .f32⟩
  | .hbm, ⟨5, _⟩ => ⟨S_, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192, .i32⟩
  | .hbm, ⟨17, _⟩ => ⟨S_, .i32⟩
  | .hbm, ⟨18, _⟩ => ⟨S1, .i32⟩
  | .hbm, ⟨19, _⟩ => ⟨S8191, .i32⟩
  | .hbm, ⟨20, _⟩ => ⟨S8192, .i32⟩
  | .hbm, ⟨21, _⟩ => ⟨S8192, .i1⟩
  | .hbm, ⟨22, _⟩ => ⟨S8192, .f32⟩
  | .hbm, ⟨23, _⟩ => ⟨S8192, .f32⟩
  | .hbm, ⟨24, _⟩ => ⟨S8192, .i32⟩
  | .hbm, ⟨25, _⟩ => ⟨S8192, .f32⟩
  | .hbm, ⟨26, _⟩ => ⟨S_, .f32⟩
  | .hbm, ⟨27, _⟩ => ⟨S8192x8192, .f32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S8192x1, .i32⟩
  | .hbm, ⟨44, _⟩ => ⟨S8192x2, .i32⟩
  | .hbm, ⟨45, _⟩ => ⟨S8192x8192, .f32⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S_, .i32⟩
  | .hbm, ⟨62, _⟩ => ⟨S8192, .i32⟩
  | .hbm, ⟨63, _⟩ => ⟨S8192, .i1⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .i32⟩
  | .hbm, ⟨68, _⟩ => ⟨S8192x1, .i32⟩
  | .hbm, ⟨69, _⟩ => ⟨S8192x1, .i32⟩
  | .hbm, ⟨70, _⟩ => ⟨S8192x2, .i32⟩
  | .hbm, ⟨71, _⟩ => ⟨S8192x8192, .f32⟩
  | .hbm, ⟨72, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_cst : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_c_8 : Ref sig .tc := ⟨.hbm, 54, rfl⟩
abbrev main_v40 : Ref sig .tc := ⟨.hbm, 55, rfl⟩
abbrev main_v41 : Ref sig .tc := ⟨.hbm, 56, rfl⟩
abbrev main_c_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_10 : Ref sig .tc := ⟨.hbm, 61, rfl⟩
abbrev main_v45 : Ref sig .tc := ⟨.hbm, 62, rfl⟩
abbrev main_v46 : Ref sig .tc := ⟨.hbm, 63, rfl⟩
abbrev main_c_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Weights.lean ====
abbrev S64x128x64 : Shape := ⟨3, ![64, 128, 64]⟩
abbrev S1x1x64 : Shape := ⟨3, ![1, 1, 64]⟩
abbrev S64x128 : Shape := ⟨2, ![64, 128]⟩
abbrev S128x128 : Shape := ⟨2, ![128, 128]⟩
abbrev S64x1 : Shape := ⟨2, ![64, 1]⟩
abbrev S64x64 : Shape := ⟨2, ![64, 64]⟩

abbrev nBuf : Space → Nat
  | .hbm => 5
  | .vmem => 5
  | .smem => 0
  | _ => 0

abbrev bufTy : (tb : Table) → Fin (tcTables nBuf tb) → BufTy
  | .hbm, ⟨0, _⟩ => ⟨S64x128x64, .f32⟩
  | .hbm, ⟨1, _⟩ => ⟨S1x1x64, .f32⟩
  | .hbm, ⟨2, _⟩ => ⟨S64x128, .f32⟩
  | .hbm, ⟨3, _⟩ => ⟨S64x128, .f32⟩
  | .hbm, ⟨4, _⟩ => ⟨S64x128, .i32⟩
  | .local _ .vmem, ⟨0, _⟩ => ⟨S64x128x64, .f32⟩
  | .local _ .vmem, ⟨1, _⟩ => ⟨S1x1x64, .f32⟩
  | .local _ .vmem, ⟨2, _⟩ => ⟨S64x128, .f32⟩
  | .local _ .vmem, ⟨3, _⟩ => ⟨S64x128, .f32⟩
  | .local _ .vmem, ⟨4, _⟩ => ⟨S64x128, .i32⟩
  | _, _ => ⟨S64x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S64x128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Pool.lean ====
abbrev S8192x64 : Shape := ⟨2, ![8192, 64]⟩
abbrev S16x4x128 : Shape := ⟨3, ![16, 4, 128]⟩
abbrev S16 : Shape := ⟨1, ![16]⟩
abbrev S8720x64 : Shape := ⟨2, ![8720, 64]⟩
abbrev S512x64 : Shape := ⟨2, ![512, 64]⟩
abbrev S1x4x128 : Shape := ⟨3, ![1, 4, 128]⟩
abbrev S1 : Shape := ⟨1, ![1]⟩
abbrev S528x64 : Shape := ⟨2, ![528, 64]⟩
abbrev S528x128 : Shape := ⟨2, ![528, 128]⟩
abbrev S1x1x128 : Shape := ⟨3, ![1, 1, 128]⟩
abbrev S1x128 : Shape := ⟨2, ![1, 128]⟩
abbrev S128x64 : Shape := ⟨2, ![128, 64]⟩

abbrev nBuf : Space → Nat
  | .hbm => 6
  | .vmem => 9
  | .smem => 1
  | _ => 0

abbrev bufTy : (tb : Table) → Fin (tcTables nBuf tb) → BufTy
  | .hbm, ⟨0, _⟩ => ⟨S8192x64, .f32⟩
  | .hbm, ⟨1, _⟩ => ⟨S16x4x128, .i32⟩
  | .hbm, ⟨2, _⟩ => ⟨S16x4x128, .f32⟩
  | .hbm, ⟨3, _⟩ => ⟨S16x4x128, .f32⟩
  | .hbm, ⟨4, _⟩ => ⟨S16, .i32⟩
  | .hbm, ⟨5, _⟩ => ⟨S8720x64, .f32⟩
  | .local _ .vmem, ⟨0, _⟩ => ⟨S512x64, .f32⟩
  | .local _ .vmem, ⟨1, _⟩ => ⟨S512x64, .f32⟩
  | .local _ .vmem, ⟨2, _⟩ => ⟨S1x4x128, .i32⟩
  | .local _ .vmem, ⟨3, _⟩ => ⟨S1x4x128, .i32⟩
  | .local _ .vmem, ⟨4, _⟩ => ⟨S1x4x128, .f32⟩
  | .local _ .vmem, ⟨5, _⟩ => ⟨S1x4x128, .f32⟩
  | .local _ .vmem, ⟨6, _⟩ => ⟨S1x4x128, .f32⟩
  | .local _ .vmem, ⟨7, _⟩ => ⟨S1x4x128, .f32⟩
  | .local _ .vmem, ⟨8, _⟩ => ⟨S8720x64, .f32⟩
  | .local _ .smem, ⟨0, _⟩ => ⟨S16, .i32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let v3 : Index := Scalar.indexCast arg0
  ![v3.toNat]
def k0_off2 (v4 : BitVec 32) : Fin 2 → Nat :=
  let c1_i32 : BitVec 32 := 1#32
  let v5 : BitVec 32 := Scalar.maxsi v4 c1_i32
  let c1_i32_1 : BitVec 32 := 1#32
  let v6 : BitVec 32 := Scalar.subi v5 c1_i32_1
  let v113 : Index := Scalar.indexCast v6
  let c0_55 : Index := 0#32
  ![v113.toNat, 0]

def k0_chk1 (v4 : BitVec 32) : Prop :=
  (∀ a, (k0_off2 v4) a + S528x64.size a ≤ S8720x64.size a)
theorem k0_off2_inb : ∀ (v4 : BitVec 32) (k0_hw1 : k0_chk1 v4), ∀ a, (k0_off2 v4) a + S528x64.size a ≤ S8720x64.size a := fun v4 k0_hw1 => k0_hw1

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8720x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Proof.Stage1.lean ====
/- The first call: its body run, its proof data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.Pipeline.Regions

@[expose] public section

set_option maxRecDepth 16384

noncomputable section

namespace Cert.Proof.Stage1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev r0_0 : Rect S64x128x64 := Rect.unit (s := S64x128x64) ![0, 0, 0] S64x128x64.size inb_S64x128x64_S64x128x64_0_0_0
abbrev r0_1 : Rect S1x1x64 := Rect.unit (s := S1x1x64) ![0, 0, 0] S1x1x64.size inb_S1x1x64_S1x1x64_0_0_0
abbrev r0_2 : Rect S64x128 := Rect.unit (s := S64x128) ![0, 0] S64x128.size inb_S64x128_S64x128_0_0

/-! ## What the body leaves in each output window's buffer -/

/-- Window 2's staging buffer after the body, from the input windows' blocks: its 1 store as pieces, LAST
    FIRST (Lib/Pipeline/FrameBody.lean `View.canon`; the payloads are the skeleton's). -/
def weightOut (x0 : Vec F S64x128x64 .f32) (x1 : Vec F S1x1x64 .f32) : Vec F S64x128 .f32 :=
  View.canon [⟨r0_2, k0_pay6 (View.ld x0 r0_0) (View.ld x1 r0_1)⟩]

/-- Its stores tile the buffer (checked by evaluation), so they cover it. -/
theorem cover0_2 (p0 : Vec F S64x128 .f32) (y : S64x128.Idx) :
    ∃ pc ∈ ([⟨r0_2, p0⟩] : List (View.Piece (Elt F) S64x128 .f32)), y ∈ pc.1.set :=
  View.cover_of_tiled [⟨r0_2, p0⟩] S64x128.size (by rfl) y

/-- Window 3's staging buffer after the body, from the input windows' blocks: its 1 store as pieces, LAST
    FIRST (Lib/Pipeline/FrameBody.lean `View.canon`; the payloads are the skeleton's). -/
def crossOut (x0 : Vec F S64x128x64 .f32) (x1 : Vec F S1x1x64 .f32) : Vec F S64x128 .f32 :=
  View.canon [⟨r0_2, k0_pay7 (View.ld x0 r0_0) (View.ld x1 r0_1)⟩]

/-- Its stores tile the buffer (checked by evaluation), so they cover it. -/
theorem cover0_3 (p0 : Vec F S64x128 .f32) (y : S64x128.Idx) :
    ∃ pc ∈ ([⟨r0_2, p0⟩] : List (View.Piece (Elt F) S64x128 .f32)), y ∈ pc.1.set :=
  View.cover_of_tiled [⟨r0_2, p0⟩] S64x128.size (by rfl) y

/-- Window 4's staging buffer after the body, from the input windows' blocks: its 1 store as pieces, LAST
    FIRST (Lib/Pipeline/FrameBody.lean `View.canon`; the payloads are the skeleton's). -/
def indexOut (x0 : Vec F S64x128x64 .f32) (x1 : Vec F S1x1x64 .f32) : Vec F S64x128 .i32 :=
  View.canon [⟨r0_2, k0_pay3 (View.ld x0 r0_0) (View.ld x1 r0_1)⟩]

/-- Its stores tile the buffer (checked by evaluation), so they cover it. -/
theorem cover0_4 (p0 : Vec F S64x128 .i32) (y : S64x128.Idx) :
    ∃ pc ∈ ([⟨r0_2, p0⟩] : List (View.Piece (Elt F) S64x128 .i32)), y ∈ pc.1.set :=
  View.cover_of_tiled [⟨r0_2, p0⟩] S64x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S64x128x64 .f32) (harg0 : arg0.IsWhole) (arg1 : Memref sig .tc .vmem S1x1x64 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S64x128 .i32) (harg4 : arg4.IsWhole)
    (x0 : Vec F S64x128x64 .f32) (x1 : Vec F S1x1x64 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare (weightOut x0 x1) ∗ owns (c : Thread nD τ) arg3 fullShare (crossOut x0 x1) ∗ owns (c : Thread nD τ) arg4 fullShare (indexOut x0 x1)) -∗ K ⟨⟩))
      ⊢ wp frame (wpE (defs₀ (F := F)) Variants.none c none) E (cc0__stage1_body arg0 harg0 arg1 harg1 arg2 harg2 arg3 harg3 arg4 harg4) K := by
  simp only [cc0__stage1_body_eq_skeleton]; unfold cc0__stage1_body_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The proof data, at an entry valuation -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: inputs' buffers at their blocks, each result's at what the body stores. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => weightOut (iblk V c 0 t) (iblk V c 1 t)
    | ⟨3, _⟩ => crossOut (iblk V c 0 t) (iblk V c 1 t)
    | ⟨4, _⟩ => indexOut (iblk V c 0 t) (iblk V c 1 t)
  Φ _ := Pipeline.scopedRest spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = weightOut (iblk V c 0 t) (iblk V c 1 t) := by dsimp only [dat]
theorem after_3 (c : Dev nD) (t : Fin cfg0.N) : (dat V c).after 3 t = crossOut (iblk V c 0 t) (iblk V c 1 t) := by dsimp only [dat]
theorem after_4 (c : Dev nD) (t : Fin cfg0.N) : (dat V c).after 4 t = indexOut (iblk V c 0 t) (iblk V c 1 t) := by dsimp only [dat]

theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks (`before_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ (iblk V c 0 t) (iblk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Proof.Stage1

end
-- ==== Proof.Stage2Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.Pipeline.Value

@[expose] public section

set_option maxRecDepth 16384

noncomputable section

namespace Cert.Proof.Stage2

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word the body reads at grid point `i`: entry `i` of the table of block starts. -/
def word (x5 : Vec F S16 .i32) (i : grid1.Coords) : BitVec 32 :=
  View.ld x5 (Rect.unit (s := S16) (k1_off1 i) S1.size (k1_off1_inb i)) (Shape.Idx.first (numel1_S1.symm ▸ Nat.one_pos))

/-- The window's first row as the body computes it from the word. -/
def base (w : BitVec 32) : BitVec 32 := Scalar.subi (Scalar.maxsi w 1#32) 1#32

/-- The row numbers of the window, one column per entry of a sub-block. -/
abbrev rows : IVec S528x128 32 := iota .tc S528x128 32 [0] iota_S528x128_d0_w32

abbrev q0 : Rect S1x4x128 := Rect.unit (s := S1x4x128) ![0, 0, 0] S1x1x128.size inb_S1x4x128_S1x1x128_0_0_0
abbrev q1 : Rect S1x4x128 := Rect.unit (s := S1x4x128) ![0, 1, 0] S1x1x128.size inb_S1x4x128_S1x1x128_0_1_0
abbrev q2 : Rect S1x4x128 := Rect.unit (s := S1x4x128) ![0, 2, 0] S1x1x128.size inb_S1x4x128_S1x1x128_0_2_0
abbrev q3 : Rect S1x4x128 := Rect.unit (s := S1x4x128) ![0, 3, 0] S1x1x128.size inb_S1x4x128_S1x1x128_0_3_0
abbrev p0 : Rect S512x64 := Rect.unit (s := S512x64) ![0, 0] S128x64.size inb_S512x64_S128x64_0_0
abbrev p1 : Rect S512x64 := Rect.unit (s := S512x64) ![128, 0] S128x64.size inb_S512x64_S128x64_128_0
abbrev p2 : Rect S512x64 := Rect.unit (s := S512x64) ![256, 0] S128x64.size inb_S512x64_S128x64_256_0
abbrev p3 : Rect S512x64 := Rect.unit (s := S512x64) ![384, 0] S128x64.size inb_S512x64_S128x64_384_0
abbrev win (w : BitVec 32) (hw : k1_chk1 w) : Rect S8720x64 := Rect.unit (s := S8720x64) (k1_off2 w) S528x64.size (k1_off2_inb w hw)
abbrev all : Rect S8720x64 := Rect.unit (s := S8720x64) ![0, 0] S8720x64.size inb_S8720x64_S8720x64_0_0

/-- The window's sum over the first two sub-blocks. -/
def sum01 (w : BitVec 32) (x1 : Vec F S512x64 .f32) (x2 : Vec F S1x4x128 .i32) (x3 : Vec F S1x4x128 .f32) (x4 : Vec F S1x4x128 .f32) : FVec F S528x64 .f32 :=
  k1_pay4 (base w) rows (k1_pay3 w (View.ld x2 q0) (View.ld x3 q0) (View.ld x4 q0) (View.ld x1 p0)) (View.ld x2 q1) (View.ld x3 q1) (View.ld x4 q1) (View.ld x1 p1)

/-- The window's sum over the first three sub-blocks. -/
def sum02 (w : BitVec 32) (x1 : Vec F S512x64 .f32) (x2 : Vec F S1x4x128 .i32) (x3 : Vec F S1x4x128 .f32) (x4 : Vec F S1x4x128 .f32) : FVec F S528x64 .f32 :=
  k1_pay9 rows (sum01 w x1 x2 x3 x4) (k1_pay5 (base w) (View.ld x2 q2)) (k1_pay6 (View.ld x4 q2)) (k1_pay7 (base w) rows (View.ld x2 q2))
    (Scalar.ofBits .f32 0x00000000#32) (k1_pay8 (View.ld x3 q2)) (View.ld x1 p2)

/-- The accumulator after the body at a point whose word is `w`, from its contents `z` before: the window's rows are added to. -/
def pooled (w : BitVec 32) (hw : k1_chk1 w) (x1 : Vec F S512x64 .f32) (x2 : Vec F S1x4x128 .i32) (x3 : Vec F S1x4x128 .f32) (x4 : Vec F S1x4x128 .f32)
    (z : Vec F S8720x64 .f32) : Vec F S8720x64 .f32 :=
  View.canon [⟨win w hw, k1_pay1 (sum02 w x1 x2 x3 x4) (k1_pay10 (base w) rows (View.ld x2 q3) (View.ld x3 q3) (View.ld x4 q3) (View.ld x1 p3)) (View.ld z (win w hw))⟩,
    ⟨all, z⟩]

theorem zero_off : (![0, 0] : Fin 2 → ℕ) = fun _ => 0 := by funext a; fin_cases a <;> rfl

/-- A last write over writes `L` reads as the canon of that write over the whole array at what the writes `L` read. -/
theorem read_over (v : View sig .tc .vmem S8720x64 .f32) (f : v.ty.Contents (Elt F)) (r : Rect S8720x64) (p : r.shape.Idx → Elt F .f32)
    (L : List (View.Piece (Elt F) S8720x64 .f32)) (z : Vec F S8720x64 .f32) (hz : v.read (Elt F) (v.writes (Elt F) f L) = z) :
    v.read (Elt F) (v.writes (Elt F) f (⟨r, p⟩ :: L)) = View.canon [⟨r, p⟩, ⟨all, z⟩] := by
  subst hz
  funext y
  by_cases hy : y ∈ r.set
  · obtain ⟨x, rfl⟩ : ∃ x, r.emb x = y := r.exists_idx_of_mem hy
    rw [View.read_writes_cons_emb, View.canon_cons_emb]
  · rw [View.writes_cons, View.read_slice_write_of_not_mem r _ _ _ (by rwa [Rect.map_emb_univ]), View.canon_cons_of_not_mem _ _ hy,
      View.canon_cons_unit_zero zero_off]

/-- The accumulator zeroed reads as zero. -/
theorem read_zeroed (v : View sig .tc .vmem S8720x64 .f32) :
    v.read (Elt F) (v.writes (Elt F) v.junk [⟨all, k1_pay2⟩]) = k1_pay2 := by
  rw [View.read_writes_junk_eq_canon, View.canon_unit_zero zero_off]

set_option maxHeartbeats 4000000 in
/-- The body at the first grid point: the accumulator is zeroed, then the window's rows are added. -/
theorem body_first (c : Dev nD) (E : Set ℕ) (i : grid1.Coords) (hi : Scalar.cmpi .ne (Scalar.extui (Scalar.cmpi .eq (BitVec.ofNat 32 (i 0).val) 0#32) : BitVec 32) 0#32 = 1#1)
    (arg1 : Memref sig .tc .vmem S512x64 .f32) (harg1 : arg1.IsWhole) (arg2 : Memref sig .tc .vmem S1x4x128 .i32) (harg2 : arg2.IsWhole)
    (arg3 : Memref sig .tc .vmem S1x4x128 .f32) (harg3 : arg3.IsWhole) (arg4 : Memref sig .tc .vmem S1x4x128 .f32) (harg4 : arg4.IsWhole)
    (arg5 : Memref sig .tc .smem S16 .i32) (harg5 : arg5.IsWhole) (arg6 : Memref sig .tc .vmem S8720x64 .f32) (harg6 : arg6.IsWhole)
    (x1 : Vec F S512x64 .f32) (x2 : Vec F S1x4x128 .i32) (x3 : Vec F S1x4x128 .f32) (x4 : Vec F S1x4x128 .f32) (x5 : Vec F S16 .i32)
    (hw : k1_chk1 (word x5 i)) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (pooled (word x5 i) hw x1 x2 x3 x4 k1_pay2)) -∗ K ⟨⟩))
      ⊢ wp frame (wpE (defs₀ (F := F)) Variants.none c none) E (cc1__stage2_body i arg1 harg1 arg2 harg2 arg3 harg3 arg4 harg4 arg5 harg5 arg6 harg6) K := by
  simp only [cc1__stage2_body_eq_skeleton]; unfold cc1__stage2_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec (disch := first | exact hi | exact hw)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  have hz := read_zeroed (F := F) arg6.view
  refine (read_over arg6.view _ _ _ _ _ hz).trans ?_
  unfold pooled
  rw [show View.ld (k1_pay2 (F := F)) (win (word (View.read (Elt F) arg5.view f5) i) hw) = View.ld (arg6.view.read (Elt F) (arg6.view.writes (Elt F) arg6.view.junk [⟨all, k1_pay2⟩])) (win (word (View.read (Elt F) arg5.view f5) i) hw) from by rw [hz]]
  rfl

set_option maxHeartbeats 4000000 in
/-- The body at a later grid point: the window's rows are added to the accumulator as the point before left it. -/
theorem body_rest (c : Dev nD) (E : Set ℕ) (i : grid1.Coords) (hi : ¬ Scalar.cmpi .ne (Scalar.extui (Scalar.cmpi .eq (BitVec.ofNat 32 (i 0).val) 0#32) : BitVec 32) 0#32 = 1#1)
    (arg1 : Memref sig .tc .vmem S512x64 .f32) (harg1 : arg1.IsWhole) (arg2 : Memref sig .tc .vmem S1x4x128 .i32) (harg2 : arg2.IsWhole)
    (arg3 : Memref sig .tc .vmem S1x4x128 .f32) (harg3 : arg3.IsWhole) (arg4 : Memref sig .tc .vmem S1x4x128 .f32) (harg4 : arg4.IsWhole)
    (arg5 : Memref sig .tc .smem S16 .i32) (harg5 : arg5.IsWhole) (arg6 : Memref sig .tc .vmem S8720x64 .f32) (harg6 : arg6.IsWhole)
    (x1 : Vec F S512x64 .f32) (x2 : Vec F S1x4x128 .i32) (x3 : Vec F S1x4x128 .f32) (x4 : Vec F S1x4x128 .f32) (x5 : Vec F S16 .i32) (x6 : Vec F S8720x64 .f32)
    (hw : k1_chk1 (word x5 i)) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (pooled (word x5 i) hw x1 x2 x3 x4 x6)) -∗ K ⟨⟩))
      ⊢ wp frame (wpE (defs₀ (F := F)) Variants.none c none) E (cc1__stage2_body i arg1 harg1 arg2 harg2 arg3 harg3 arg4 harg4 arg5 harg5 arg6 harg6) K := by
  simp only [cc1__stage2_body_eq_skeleton]; unfold cc1__stage2_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5
  sl_exec (disch := first | exact hi | exact hw)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  subst hf6
  exact (read_over _ _ _ _ [] _ rfl).trans rfl

end Cert.Proof.Stage2

end
-- ==== Proof.Stage2.lean ====
/- The second call's proof data and its region: the accumulator is carried in the result's staging buffer from point to point. -/
module

public import proofs.«01_k».proof.Proof.Stage2Body
public import Idealize.ShloMosaic.Lib.Pipeline.Regions

@[expose] public section

set_option maxRecDepth 16384

noncomputable section

namespace Cert.Proof.Stage2

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The word the body reads at point `t`. -/
def wordAt (c : Dev nD) (t : Fin cfg1.N) : BitVec 32 := word (F := F) (iblk V c 4 t) (grid1.coords t)

/-- At every point the window of rows lies inside the accumulator. -/
def Fits : Prop := ∀ c t, k1_chk1 (wordAt V c t)

variable (hfit : Fits V)

/-- The accumulator after the first `n` points. -/
def hold (c : Dev nD) : ℕ → Vec F S8720x64 .f32
  | 0 => k1_pay2
  | n + 1 => if h : n < cfg1.N then
      pooled (wordAt V c ⟨n, h⟩) (hfit c ⟨n, h⟩) (iblk V c 0 ⟨n, h⟩) (iblk V c 1 ⟨n, h⟩) (iblk V c 2 ⟨n, h⟩) (iblk V c 3 ⟨n, h⟩) (hold c n)
    else hold c n

theorem hold_succ (c : Dev nD) (t : Fin cfg1.N) : hold V hfit c (t.val + 1)
    = pooled (wordAt V c t) (hfit c t) (iblk V c 0 t) (iblk V c 1 t) (iblk V c 2 t) (iblk V c 3 t) (hold V hfit c t.val) := by
  rw [hold, dif_pos t.isLt]

/-- The proof data: inputs' buffers at their blocks, the result's at the accumulator. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => hold V hfit c (t.val + 1)
  Φ _ := Pipeline.scopedRest spec1 c
  q _ := fullShare
  owed _ := 0

theorem A_eq (c : Dev nD) (w : Fin cfg1.W) : (dat V hfit c).A w = V c (Pipeline.arrRef spec1 w) := by dsimp only [dat]
theorem after_0 (c : Dev nD) (t : Fin cfg1.N) : (dat V hfit c).after 0 t = iblk V c 0 t := by dsimp only [dat]
theorem after_1 (c : Dev nD) (t : Fin cfg1.N) : (dat V hfit c).after 1 t = iblk V c 1 t := by dsimp only [dat]
theorem after_2 (c : Dev nD) (t : Fin cfg1.N) : (dat V hfit c).after 2 t = iblk V c 2 t := by dsimp only [dat]
theorem after_3 (c : Dev nD) (t : Fin cfg1.N) : (dat V hfit c).after 3 t = iblk V c 3 t := by dsimp only [dat]
theorem after_4 (c : Dev nD) (t : Fin cfg1.N) : (dat V hfit c).after 4 t = iblk V c 4 t := by dsimp only [dat]
theorem after_5 (c : Dev nD) (t : Fin cfg1.N) : (dat V hfit c).after 5 t = hold V hfit c (t.val + 1) := by dsimp only [dat]

theorem before_0 (c : Dev nD) (t : Fin cfg1.N) (d) : (dat V hfit c).before 0 t d = iblk V c 0 t :=
  ((dat V hfit c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V hfit c).before 1 t d = iblk V c 1 t :=
  ((dat V hfit c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V hfit c).before 2 t d = iblk V c 2 t :=
  ((dat V hfit c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V hfit c).before 3 t d = iblk V c 3 t :=
  ((dat V hfit c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V hfit c).before 4 t d = iblk V c 4 t :=
  ((dat V hfit c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- At a later point the result's buffer holds the accumulator as the point before left it. -/
theorem before_5 (c : Dev nD) (t : Fin cfg1.N) (ht : t.val ≠ 0) (d) : (dat V hfit c).before 5 t d = hold V hfit c t.val := by
  have hN : t.val < 16 := lt_of_lt_of_eq t.isLt N_1
  rw [(dat V hfit c).before_out_kept 5 rfl t ht
    (by rw [Bool.eq_false_iff, Ne, flush1_5]; dsimp only; omega) (fun _ => rfl) (fun _ _ => rfl) d, after_5]
  congr 1; dsimp only; omega

/-- The body's test of its grid coordinate is true at the first point alone. -/
theorem first_iff (t : Fin cfg1.N) :
    Scalar.cmpi .ne (Scalar.extui (Scalar.cmpi .eq (BitVec.ofNat 32 ((grid1.coords t) 0).val) 0#32) : BitVec 32) 0#32 = 1#1 ↔ t.val = 0 := by
  revert t; decide

def bodyPre (c : Dev nD) (t : Fin cfg1.N) : sProp 𝕄 :=
  iprop((dat V hfit c).Φ t.castSucc ∗ (dat V hfit c).owesAt () t.castSucc
    ∗ (∃ d, owns (c : Thread nD τ) (st1_0 t) fullShare ((dat V hfit c).before 0 t d))
    ∗ (∃ d, owns (c : Thread nD τ) (st1_1 t) fullShare ((dat V hfit c).before 1 t d))
    ∗ (∃ d, owns (c : Thread nD τ) (st1_2 t) fullShare ((dat V hfit c).before 2 t d))
    ∗ (∃ d, owns (c : Thread nD τ) (st1_3 t) fullShare ((dat V hfit c).before 3 t d))
    ∗ (∃ d, owns (c : Thread nD τ) (st1_4 t) fullShare ((dat V hfit c).before 4 t d))
    ∗ (∃ d, owns (c : Thread nD τ) (st1_5 t) fullShare ((dat V hfit c).before 5 t d)))

def bodyPost (c : Dev nD) (t : Fin cfg1.N) : sProp 𝕄 :=
  iprop((dat V hfit c).Φ t.succ ∗ (dat V hfit c).owesAt () t.succ
    ∗ owns (c : Thread nD τ) (st1_0 t) fullShare ((dat V hfit c).after 0 t)
    ∗ owns (c : Thread nD τ) (st1_1 t) fullShare ((dat V hfit c).after 1 t)
    ∗ owns (c : Thread nD τ) (st1_2 t) fullShare ((dat V hfit c).after 2 t)
    ∗ owns (c : Thread nD τ) (st1_3 t) fullShare ((dat V hfit c).after 3 t)
    ∗ owns (c : Thread nD τ) (st1_4 t) fullShare ((dat V hfit c).after 4 t)
    ∗ owns (c : Thread nD τ) (st1_5 t) fullShare ((dat V hfit c).after 5 t))

/-- The body at any point. -/
theorem sound_body (c : Dev nD) (t : Fin cfg1.N) :
    bodyPre V hfit c t ⊢ wp frame (wpE (defs₀ (F := F)) Variants.none c none) Set.univ (bodyAt1 t) (fun _ => bodyPost V hfit c t) := by
  unfold bodyPre bodyPost bodyAt1
  simp only [before_0, before_1, before_2, before_3, before_4]
  rw [show (dat V hfit c).Φ t.succ = (dat V hfit c).Φ t.castSucc from rfl,
    show (dat V hfit c).owesAt () t.succ = (dat V hfit c).owesAt () t.castSucc from rfl,
    after_0, after_1, after_2, after_3, after_4, after_5, hold_succ]
  iintro ⟨HΦ, Ho, ⟨%d0, H0⟩, ⟨%d1, H1⟩, ⟨%d2, H2⟩, ⟨%d3, H3⟩, ⟨%d4, H4⟩, ⟨%d5, H5⟩⟩
  by_cases ht : t.val = 0
  · rw [show hold V hfit c t.val = k1_pay2 from by rw [ht]; rfl]
    iapply (body_first c Set.univ (grid1.coords t) ((first_iff t).mpr ht) _ _ _ _ _ _ _ _ _ _ _ _
      (iblk V c 0 t) (iblk V c 1 t) (iblk V c 2 t) (iblk V c 3 t) (iblk V c 4 t) (hfit c t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [before_5 V hfit c t ht]
    iapply (body_rest c Set.univ (grid1.coords t) (fun h => ht ((first_iff t).mp h)) _ _ _ _ _ _ _ _ _ _ _ _
      (iblk V c 0 t) (iblk V c 1 t) (iblk V c 2 t) (iblk V c 3 t) (iblk V c 4 t) (hold V hfit c t.val) (hfit c t) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) V hfit c) (defs₀ (F := F)) Variants.none () Set.univ := fun t => by
  rw [bigSep_W1, bigSep_W1, defs₀_row]
  exact triple_restated (sound_body V hfit c t) rfl .rfl fun _ => .rfl

end Cert.Proof.Stage2

end
-- ==== Proof.Run.lean ====
/- The whole kernel's run: both calls as segments between the host's reshapes and minimum, and what the buffers hold at the end. -/
module

public import proofs.«01_k».proof.Proof.Stage1
public import proofs.«01_k».proof.Proof.Stage2
public import proofs.«01_k».proof.Proof.Gen.KernelIdeal.Regions
public import Idealize.ShloMosaic.Lib.Pipeline.FrameTail

@[expose] public section

set_option maxRecDepth 16384

noncomputable section

namespace Cert.Proof.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev L : GSem nD τ sig → Finset Unit := fun _ => ∅
abbrev lv : GSem nD τ sig → Unit → ℕ := fun _ _ => 0

/-- What rides along a core's buffers: its empty account. -/
abbrev rest (c : Dev nD) : sProp 𝕄 := iprop(∃ W, owes (c : Thread nD τ) (0 : CellTallies nD τ sig Unit) W)

/-! ## What the calls leave -/

/-- The launch contents everywhere but the first call's results, which its write-back leaves. -/
def outs0 : Outs (F := F) := fun _ r c =>
  Function.update (β := fun b : DevRef τ sig => Buf (Elt F) ((c, b) : Loc nD τ sig))
    (Function.update (β := fun b : DevRef τ sig => Buf (Elt F) ((c, b) : Loc nD τ sig))
      (Function.update (β := fun b : DevRef τ sig => Buf (Elt F) ((c, b) : Loc nD τ sig)) (fun b => m (c, b))
        main_v2_0 ((Stage1.dat (fun c b => V1 m c b) c).arrAt 2 cfg0.N))
      main_v2_1 ((Stage1.dat (fun c b => V1 m c b) c).arrAt 3 cfg0.N))
    main_v2_2 ((Stage1.dat (fun c b => V1 m c b) c).arrAt 4 cfg0.N) r

/-- The window of every point fits, the buffers as the second call finds them. -/
abbrev Fit : Prop := Stage2.Fits (fun c b => V3 m (outs0 m) c b)

variable (hfit : Fit m)

/-- The second call's result where its write-back leaves it. -/
def outs1 (r : Ref sig .tc) (c : Dev nD) : Buf (Elt F) ((c : Thread nD τ).loc r) :=
  Function.update (β := fun b : DevRef τ sig => Buf (Elt F) ((c, b) : Loc nD τ sig)) (fun b => m (c, b))
    main_v8 ((Stage2.dat (fun c b => V3 m (outs0 m) c b) hfit c).arrAt 5 cfg1.N) r

/-- The same with the second call's result. -/
def outs : Outs (F := F) := fun J r c => match J with
  | 4 => outs1 m hfit r c
  | _ => outs0 m 2 r c

/-- The two calls' proof data. -/
def pdats : (p : Fin 2) → (c : Dev nD) → Dat τ (Elt F) Unit ℕ (UR sig nD τ) ℕ (Pipeline.pin (pcfgs (F := F)) adm p) c
  | ⟨0, _⟩ => fun c => Stage1.dat (fun c b => V1 m c b) c
  | ⟨1, _⟩ => fun c => Stage2.dat (fun c b => V3 m (outs0 m) c b) hfit c

theorem outs_2_0 (c : Dev nD) : V2 m (outs m hfit) c main_v2_0 = (Stage1.dat (fun c b => V1 m c b) c).arrAt 2 cfg0.N := by
  unfold V2
  rw [Function.update_of_ne (by decide), Function.update_of_ne (by decide), Function.update_self]
  show outs0 m 2 main_v2_0 c = _
  unfold outs0
  rw [Function.update_of_ne (by decide), Function.update_of_ne (by decide), Function.update_self]
theorem outs_2_1 (c : Dev nD) : V2 m (outs m hfit) c main_v2_1 = (Stage1.dat (fun c b => V1 m c b) c).arrAt 3 cfg0.N := by
  unfold V2
  rw [Function.update_of_ne (by decide), Function.update_self]
  show outs0 m 2 main_v2_1 c = _
  unfold outs0
  rw [Function.update_of_ne (by decide), Function.update_self]
theorem outs_2_2 (c : Dev nD) : V2 m (outs m hfit) c main_v2_2 = (Stage1.dat (fun c b => V1 m c b) c).arrAt 4 cfg0.N := by
  unfold V2
  rw [Function.update_self]
  show outs0 m 2 main_v2_2 c = _
  unfold outs0
  rw [Function.update_self]
theorem outs_4 (c : Dev nD) : V4 m (outs m hfit) c main_v8 = (Stage2.dat (fun c b => V3 m (outs0 m) c b) hfit c).arrAt 5 cfg1.N := by
  unfold V4
  rw [Function.update_self]
  show outs1 m hfit main_v8 c = _
  unfold outs1
  rw [Function.update_self]

/-- What the first call leaves in each array it reads or writes. -/
theorem left0 (c : Dev nD) : (w : Fin 5) → (Stage1.dat (fun c b => V1 m c b) c).arrAt w cfg0.N = V2 m (outs m hfit) c (Pipeline.arrRef spec0 w)
  | 0 => ((Stage1.dat (fun c b => V1 m c b) c).arrAt_in 0 rfl _).trans (V2_of m (outs m hfit) c _ (by decide)).symm
  | 1 => ((Stage1.dat (fun c b => V1 m c b) c).arrAt_in 1 rfl _).trans (V2_of m (outs m hfit) c _ (by decide)).symm
  | 2 => (outs_2_0 m hfit c).symm
  | 3 => (outs_2_1 m hfit c).symm
  | 4 => (outs_2_2 m hfit c).symm

/-- The second call's result changes nothing before it. -/
theorem V2_eq (c : Dev nD) : V2 m (outs m hfit) c = V2 m (outs0 m) c := by
  show Function.update (Function.update (Function.update (V1 m c) main_v2_0 (outs0 m 2 main_v2_0 c)) main_v2_1 (outs0 m 2 main_v2_1 c)) main_v2_2 (outs0 m 2 main_v2_2 c) = _
  rfl
theorem V3_eq (c : Dev nD) : V3 m (outs m hfit) c = V3 m (outs0 m) c :=
  congrArg (StableHlo.after hostOps1) (V2_eq m hfit c)

/-- What the second call leaves in each array it only reads. -/
theorem kept1 (c : Dev nD) (w : Fin 6) (h : (cfg1.win w).isOut = false) (hr : Pipeline.arrRef spec1 w ∉ ([main_v8] : List (Ref sig .tc))) :
    (Stage2.dat (fun c b => V3 m (outs0 m) c b) hfit c).arrAt w cfg1.N = V4 m (outs m hfit) c (Pipeline.arrRef spec1 w) := by
  rw [V4_of m (outs m hfit) c _ hr, V3_eq, (Stage2.dat (fun c b => V3 m (outs0 m) c b) hfit c).arrAt_in w h, Stage2.A_eq]

/-- What the second call leaves in each array it reads or writes. -/
theorem left1 (c : Dev nD) (w : Fin 6) : (Stage2.dat (fun c b => V3 m (outs0 m) c b) hfit c).arrAt w cfg1.N = V4 m (outs m hfit) c (Pipeline.arrRef spec1 w) := by
  fin_cases w
  · exact kept1 m hfit c 0 rfl (by decide)
  · exact kept1 m hfit c 1 rfl (by decide)
  · exact kept1 m hfit c 2 rfl (by decide)
  · exact kept1 m hfit c 3 rfl (by decide)
  · exact kept1 m hfit c 4 rfl (by decide)
  · exact (outs_4 m hfit c).symm

/-! ## The regions -/

set_option backward.isDefEq.respectTransparency.types false in
/-- The first region between the thread states: entered with every unscoped buffer at `V1 m`, left with it at `V2 m (outs m hfit)`. -/
def region0 : RegionSeg (pcfgs (F := F)) adm (pdats m hfit) () defs₀ Variants.none L lv 0 where
  win := launch0.win.to₀
  block_pos := launch0.block_pos
  stage_whole := launch0.stage_whole
  K := PEmpty
  osem k := k.elim
  ho := Pipeline.OwnSemFacts.none _
  hbody c := (Stage1.body_obligation (fun c b => V1 m c b) c).loose
  hwaits := Pipeline.hwaits_of_owed_zero _ _ _ _ L lv 0 fun _ _ => rfl
  pre c := iprop(StableHlo.held (c : Thread nD τ) (Pipeline.ucRefs τ sig) (V1 m c) ∗ rest c)
  post c := iprop(StableHlo.held (c : Thread nD τ) (Pipeline.ucRefs τ sig) (V2 m (outs m hfit) c) ∗ rest c)
  X _ := BI.emp
  Y _ := BI.emp
  Z c := Pipeline.unscopedRest (Ix := Unit) (Name := ℕ) (U := UR sig nD τ) (Lvl := ℕ) spec0 c (fun b => V1 m c b)
  hentry c := by
    rw [Pipeline.ownSems0_none, ← Pipeline.unscopedBufs_held (Ix := Unit) (Name := ℕ) (U := UR sig nD τ) (Lvl := ℕ) c (V1 m c)]
    have hsplit := Pipeline.arrays_of_unscopedBufs (p := 0) (pcfgs (F := F)) adm (pdats m hfit) launch0.win launch0.arr_whole c
      ((pdats m hfit 0 c).share_full fun _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m hfit 0 c).Φ 0 = Pipeline.scopedRest spec0 c from rfl]
    iintro ⟨-, -, Hr⟩; iexact Hr
  hout c := by
    rw [Pipeline.ownSems0_none, show (pdats m hfit 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m hfit) ((pdats m hfit 0 c).share_full fun _ => rfl) (fun b => V1 m c b) (fun b => V2 m (outs m hfit) c b) ((pdats m hfit 0 c).arrAt · cfg0.N)
      (fun w => left0 m hfit c w)
      (fun b hb => V2_of m (outs m hfit) c b fun h => hb (by rcases List.mem_cons.mp h with h | h; exacts [h ▸ Finset.mem_image.mpr ⟨2, Finset.mem_univ _, rfl⟩, (List.mem_cons.mp h).elim (fun h => h ▸ Finset.mem_image.mpr ⟨3, Finset.mem_univ _, rfl⟩) fun h => List.mem_singleton.mp h ▸ Finset.mem_image.mpr ⟨4, Finset.mem_univ _, rfl⟩]))
    rw [← Pipeline.unscopedBufs_held (Ix := Unit) (Name := ℕ) (U := UR sig nD τ) (Lvl := ℕ) c (V2 m (outs m hfit) c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second region between the thread states: entered with every unscoped buffer at `V3 m (outs m hfit)`, left with it at `V4 m (outs m hfit)`. -/
def region1 : RegionSeg (pcfgs (F := F)) adm (pdats m hfit) () defs₀ Variants.none L lv 1 where
  win := launch1.win.to₀
  block_pos := launch1.block_pos
  stage_whole := launch1.stage_whole
  K := PEmpty
  osem k := k.elim
  ho := Pipeline.OwnSemFacts.none _
  hbody c := (Stage2.body_obligation (fun c b => V3 m (outs0 m) c b) hfit c).loose
  hwaits := Pipeline.hwaits_of_owed_zero _ _ _ _ L lv 1 fun _ _ => rfl
  pre c := iprop(StableHlo.held (c : Thread nD τ) (Pipeline.ucRefs τ sig) (V3 m (outs m hfit) c) ∗ rest c)
  post c := iprop(StableHlo.held (c : Thread nD τ) (Pipeline.ucRefs τ sig) (V4 m (outs m hfit) c) ∗ rest c)
  X _ := BI.emp
  Y _ := BI.emp
  Z c := Pipeline.unscopedRest (Ix := Unit) (Name := ℕ) (U := UR sig nD τ) (Lvl := ℕ) spec1 c (fun b => V3 m (outs m hfit) c b)
  hentry c := by
    rw [Pipeline.ownSems0_none, ← Pipeline.unscopedBufs_held (Ix := Unit) (Name := ℕ) (U := UR sig nD τ) (Lvl := ℕ) c (V3 m (outs m hfit) c)]
    have hsplit := Pipeline.arrays_of_unscopedBufs (p := 1) (pcfgs (F := F)) adm (pdats m hfit) launch1.win launch1.arr_whole c
      ((pdats m hfit 1 c).share_full fun _ => rfl) (fun b => V3 m (outs m hfit) c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m hfit 1 c).Φ 0 = Pipeline.scopedRest spec1 c from rfl]
    iintro ⟨-, -, Hr⟩; iexact Hr
  hout c := by
    rw [Pipeline.ownSems0_none, show (pdats m hfit 1 c).Φ (Fin.last _) = Pipeline.scopedRest spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m hfit) ((pdats m hfit 1 c).share_full fun _ => rfl) (fun b => V3 m (outs m hfit) c b) (fun b => V4 m (outs m hfit) c b) ((pdats m hfit 1 c).arrAt · cfg1.N)
      (fun w => left1 m hfit c w)
      (fun b hb => V4_of m (outs m hfit) c b fun h => hb (by exact List.mem_singleton.mp h ▸ Finset.mem_image.mpr ⟨5, Finset.mem_univ _, rfl⟩))
    rw [← Pipeline.unscopedBufs_held (Ix := Unit) (Name := ℕ) (U := UR sig nD τ) (Lvl := ℕ) c (V4 m (outs m hfit) c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The whole run -/

/-- Every weakly fair execution ends with the unscoped buffers at the last valuation and every counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = V5 m (outs m hfit) c b) ∧ r.2.sem = fun _ => 0) := by
  refine Pipeline.θ_run_regions_kit_dev_sems (pcfgs (F := F)) adm (pdats m hfit) () cellOf_inj emb₁ defs₀ Variants.none L lv m ρ main
    (segs m (outs m hfit) Variants.none L lv (fun _ => rest) () (pdats m hfit) (region0 m hfit) (region1 m hfit))
    (fun c Q => by
      rewrite [main_chain c, Seg.run_eq_chain,
        show (segs m (outs m hfit) Variants.none L lv (fun _ => rest) () (pdats m hfit) (region0 m hfit) (region1 m hfit) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide)
    (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V5 m (outs m hfit) c))
    (hch := fun c => ⟨.rfl, .rfl, .rfl, .rfl, .rfl, .rfl⟩)
    (hinit := by
      refine Pipeline.initEach L lv fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      iintro ⟨⟨Hh, -, HO, -, -, -⟩, -⟩
      imodintro
      isplitl [Hh]; · iexact Hh
      iexists _; iexact HO)
    (QY := fun c s => ∀ b ∈ Pipeline.ucRefs τ sig, s.mem ((c.tc : Thread nD τ).1, b) = V5 m (outs m hfit) c b)
    (hfin := fun c s' => by
      unfold StableHlo.held
      iintro ⟨Hh, HSI⟩
      ihave Hr := (pointsTo_read_all (Pipeline.ucRefs τ sig) (fun b => ((c.tc : Thread nD τ).1, b)) (V5 m (outs m hfit) c) s') $$ [Hh HSI]
      · isplitl [Hh] <;> iassumption
      imodintro; iexact Hr)
    (hQ := fun _ h hz => ⟨h, funext fun g => hz g (.inr (regions_no_unscoped g.2))⟩)

/-- What a final state says of the result and the arguments. -/
theorem run_result (ρ : Dev nD → PrngReg) :
    θ_run defs (onTc (τ := τ) (main (F := F))) ⟨m, fun _ => 0, ρ⟩ (fun r => (∀ c : Dev nD,
        r.2.mem ((c.tc : Thread nD τ).loc main_v9) = V5 m (outs m hfit) c main_v9
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ h => ⟨fun c =>
    ⟨h.1 c (Proc.devRef .tc main_v9) (Finset.mem_filter.mpr ⟨StableHlo.devRef_mem_tcRefs main_v9, by decide⟩),
     (h.1 c (Proc.devRef .tc main_arg0) (Finset.mem_filter.mpr ⟨StableHlo.devRef_mem_tcRefs main_arg0, by decide⟩)).trans (V5_main_arg0 m _ c),
     (h.1 c (Proc.devRef .tc main_arg1) (Finset.mem_filter.mpr ⟨StableHlo.devRef_mem_tcRefs main_arg1, by decide⟩)).trans (V5_main_arg1 m _ c)⟩, h.2⟩) (run m hfit ρ)

end Cert.Proof.Run

end
-- ==== Proof.Warp.lean ====
/- The warp as plain mathematics: a sequence of weights between 0 and 1, its prefix sums, the whole parts of those, and the
   two shares each entry gives to its row and the row above. -/
module

public import Idealize.ShloMosaic.PureOps.Ideal.Laws
public import Idealize.ShloMosaic.Lib.WordCmp

@[expose] public section

noncomputable section

namespace Cert.Proof.Warp

open Idealize.ShloMosaic
open scoped BigOperators

/-- The logistic value as a real number. -/
def sig (z : EReal) : ℝ := (Ideal.logistic z).toReal

theorem sig_coe (z : EReal) : ((sig z : ℝ) : EReal) = Ideal.logistic z := by
  unfold sig
  induction z with
  | bot => rw [Ideal.logistic_bot]; rfl
  | top => rw [Ideal.logistic_top]; rfl
  | coe r => rw [Ideal.logistic_coe]; rfl

theorem sig_nonneg (z : EReal) : 0 ≤ sig z := by
  unfold sig
  induction z with
  | bot => rw [Ideal.logistic_bot]; exact le_refl _
  | top => rw [Ideal.logistic_top]; exact zero_le_one
  | coe r => rw [Ideal.logistic_coe, EReal.toReal_coe]; positivity

theorem sig_le_one (z : EReal) : sig z ≤ 1 := by
  unfold sig
  induction z with
  | bot => rw [Ideal.logistic_bot]; exact zero_le_one
  | top => rw [Ideal.logistic_top]; exact le_refl _
  | coe r =>
    rw [Ideal.logistic_coe, EReal.toReal_coe]
    exact inv_le_one_of_one_le₀ (by linarith [Real.exp_pos (-r)])

/-! ## Prefix sums and their whole parts -/

/-- The sum of the first `n` weights. -/
def pre (a : ℕ → ℝ) (n : ℕ) : ℝ := ∑ j ∈ Finset.range n, a j

/-- Its whole part. -/
def fl (a : ℕ → ℝ) (n : ℕ) : ℕ := ⌊pre a n⌋₊

/-- Entry `n` reaches a row that the entries before it did not. -/
def Crosses (a : ℕ → ℝ) (n : ℕ) : Prop := fl a (n + 1) ≠ fl a n

/-- What is left of the prefix sum after its whole part. -/
def frac (a : ℕ → ℝ) (n : ℕ) : ℝ := pre a (n + 1) - (fl a (n + 1) : ℝ)

open Classical in
/-- What entry `n` gives to its own row. -/
def main (a : ℕ → ℝ) (n : ℕ) : ℝ := if Crosses a n then frac a n else a n

open Classical in
/-- What entry `n` gives to the row above. -/
def rest (a : ℕ → ℝ) (n : ℕ) : ℝ := if Crosses a n then a n - frac a n else 0

theorem pre_succ (a : ℕ → ℝ) (n : ℕ) : pre a (n + 1) = pre a n + a n := Finset.sum_range_succ ..

variable {a : ℕ → ℝ} (h0 : ∀ n, 0 ≤ a n) (h1 : ∀ n, a n ≤ 1)

include h0 in
theorem pre_nonneg (n : ℕ) : 0 ≤ pre a n := Finset.sum_nonneg fun j _ => h0 j

include h0 in
theorem pre_mono {n k : ℕ} (h : n ≤ k) : pre a n ≤ pre a k :=
  Finset.sum_le_sum_of_subset_of_nonneg (Finset.range_mono h) fun j _ _ => h0 j

include h1 in
theorem pre_add_le (n k : ℕ) : pre a (n + k) ≤ pre a n + k := by
  induction k with
  | zero => simp
  | succ k ih =>
    rw [← Nat.add_assoc, pre_succ, Nat.cast_succ]
    linarith [h1 (n + k)]

include h0 in
theorem fl_mono {n k : ℕ} (h : n ≤ k) : fl a n ≤ fl a k := Nat.floor_mono (pre_mono h0 h)

include h0 h1 in
theorem fl_add_le (n k : ℕ) : fl a (n + k) ≤ fl a n + k := by
  unfold fl
  rw [← Nat.floor_add_natCast (pre_nonneg h0 n)]
  exact Nat.floor_mono (pre_add_le h1 n k)

theorem fl_zero (a : ℕ → ℝ) : fl a 0 = 0 := by unfold fl pre; simp

include h0 h1 in
theorem fl_le (n : ℕ) : fl a n ≤ n := by
  have := fl_add_le h0 h1 0 n
  rwa [Nat.zero_add, fl_zero, Nat.zero_add] at this

theorem rest_of_not (n : ℕ) (h : ¬ Crosses a n) : rest a n = 0 := if_neg h

include h0 in
/-- An entry that gives to the row above is not in the first row. -/
theorem one_le_of_rest (n : ℕ) (h : rest a n ≠ 0) : 1 ≤ fl a (n + 1) := by
  by_contra hc
  have e : fl a (n + 1) = 0 := by omega
  have e' := fl_mono h0 (Nat.le_succ n)
  exact h (rest_of_not n fun hx => hx (by rw [Nat.succ_eq_add_one] at e'; omega))

/-! ## Prefix sums read by blocks -/

theorem sum_blocks {M : Type} [AddCommMonoid M] (f : ℕ → M) (w s : ℕ) : ∑ j ∈ Finset.range (w * s), f j = ∑ i ∈ Finset.range s, ∑ l ∈ Finset.range w, f (w * i + l) := by
  induction s with
  | zero => simp
  | succ s ih => rw [Nat.mul_succ, Finset.sum_range_add, ih, Finset.sum_range_succ]

/-- A prefix sum cut into the blocks of 128 before it and a part of its own block, as the indicator sums spell it. -/
theorem pre_blocks (a : ℕ → ℝ) (s : Fin 64) (l : Fin 128) :
    ∑ l' : Fin 128, a (128 * s.val + l'.val) * (if l'.val ≤ l.val then 1 else 0)
      + ∑ s' : Fin 64, (if s'.val < s.val then 1 else 0) * ∑ l' : Fin 128, a (128 * s'.val + l'.val) * (if l'.val ≤ 127 then 1 else 0)
      = pre a (128 * s.val + l.val + 1) := by
  unfold pre
  rw [Nat.add_assoc, Finset.sum_range_add, sum_blocks, add_comm]
  congr 1
  · rw [Fin.sum_univ_eq_sum_range (fun s' => (if s' < s.val then (1 : ℝ) else 0) * ∑ l' : Fin 128, a (128 * s' + l'.val) * (if l'.val ≤ 127 then 1 else 0)) 64]
    simp only [ite_mul, one_mul, zero_mul]
    rw [← Finset.sum_filter]
    have : (Finset.range 64).filter (fun s' => s' < s.val) = Finset.range s.val := by
      ext i; simp only [Finset.mem_filter, Finset.mem_range]; have := s.isLt; omega
    rw [this]
    refine Finset.sum_congr rfl fun i _ => ?_
    rw [Finset.sum_range]
    refine Finset.sum_congr rfl fun l' _ => ?_
    rw [if_pos (by have := l'.isLt; omega), mul_one]
  · rw [Fin.sum_univ_eq_sum_range (fun l' => a (128 * s.val + l') * (if l' ≤ l.val then 1 else 0)) 128]
    simp only [mul_ite, mul_one, mul_zero]
    rw [← Finset.sum_filter]
    have : (Finset.range 128).filter (fun l' => l' ≤ l.val) = Finset.range (l.val + 1) := by
      ext i; simp only [Finset.mem_filter, Finset.mem_range]; have := l.isLt; omega
    rw [this]

/-! ## Words and whole parts -/

/-- The floor of a real between zero and `2 ^ 31`, as a word, is its whole part. -/
theorem fptosi_floor (r : ℝ) (h : 0 ≤ r) (hr : ⌊r⌋₊ < 2 ^ 31) :
    Ideal.fptosi 32 (Ideal.liftRound Int.floor (r : EReal)) = BitVec.ofNat 32 ⌊r⌋₊ := by
  have e : (⌊r⌋ : ℤ) = (⌊r⌋₊ : ℤ) := (Int.natCast_floor_eq_floor h).symm
  rw [Ideal.liftRound_coe, Ideal.fptosi, Ideal.toIntClamped_coe, e]
  have h' : (0 : ℝ) ≤ (((⌊r⌋₊ : ℕ) : ℤ) : ℝ) := by positivity
  rw [if_pos h', Int.floor_intCast]
  generalize ⌊r⌋₊ = k at hr
  rw [show max (-(2 ^ (32 - 1) : ℕ) : ℤ) (min (((2 ^ (32 - 1) : ℕ) : ℤ) - 1) ((k : ℕ) : ℤ)) = ((k : ℕ) : ℤ) from by
    push_cast; omega]
  exact BitVec.ofInt_natCast ..

/-- A small natural number's word converts to that number. -/
theorem sitofp_ofNat (k : ℕ) (h : k < 2 ^ 31) : FloatOps.sitofp (F := Ideal) FTy.f32 (BitVec.ofNat 32 k) = ((k : ℝ) : EReal) := by
  show (((BitVec.ofNat 32 k).toInt : ℝ) : EReal) = _
  rw [BitVec.toInt_eq_toNat_of_lt (by rw [BitVec.toNat_ofNat]; omega), BitVec.toNat_ofNat, Nat.mod_eq_of_lt (by omega)]
  simp

/-- A widened bit converts to 1 or 0. -/
theorem sitofp_bit (p : Bool) : FloatOps.sitofp (F := Ideal) FTy.f32 (BitVec.setWidth 32 (BitVec.ofBool p)) = (((if p = true then 1 else 0 : ℝ)) : EReal) := by
  show (((BitVec.setWidth 32 (BitVec.ofBool p)).toInt : ℝ) : EReal) = _
  cases p <;> simp

/-- The same for a bit that says whether something holds. -/
theorem sitofp_decide (p : Prop) [Decidable p] :
    FloatOps.sitofp (F := Ideal) FTy.f32 (BitVec.setWidth 32 (BitVec.ofBool (decide p))) = (((if p then 1 else 0 : ℝ)) : EReal) := by
  rw [sitofp_bit]; simp only [decide_eq_true_eq]

/-- A real sum among the extended reals. -/
theorem coe_sum {ι : Type} (s : Finset ι) (f : ι → ℝ) : ((∑ i ∈ s, f i : ℝ) : EReal) = ∑ i ∈ s, ((f i : ℝ) : EReal) := by
  classical
  induction s using Finset.induction with
  | empty => rfl
  | insert i s h ih => rw [Finset.sum_insert h, Finset.sum_insert h, EReal.coe_add, ih]

theorem bit_zero {b : BitVec 1} (h : ¬ b = 1#1) : b = 0#1 := (BitVec.eq_zero_or_eq_one b).resolve_right h

/-! ## The shares as the programs select them -/

section Shares

variable {a : ℕ → ℝ} (n : ℕ) (hn : fl a (n + 1) < 2 ^ 31) (hp : fl a n < 2 ^ 31)

include hn hp in
theorem crosses_word : IntOp.cmpi .ne (BitVec.ofNat 32 (fl a (n + 1))) (BitVec.ofNat 32 (fl a n)) = 1#1 ↔ Crosses a n := by
  rw [WordCmp.cmpi_ne_ofNat (by omega) (by omega), WordCmp.ofBool_decide_eq_one_iff]; rfl

include hn in
theorem frac_coe : ((pre a (n + 1) : ℝ) : EReal) - FloatOps.sitofp (F := Ideal) FTy.f32 (BitVec.ofNat 32 (fl a (n + 1))) = ((frac a n : ℝ) : EReal) := by
  rw [sitofp_ofNat _ hn, ← EReal.coe_sub]; rfl

include hn hp in
theorem main_select : Scalar.select (IntOp.cmpi .ne (BitVec.ofNat 32 (fl a (n + 1))) (BitVec.ofNat 32 (fl a n)))
    (((pre a (n + 1) : ℝ) : EReal) - FloatOps.sitofp (F := Ideal) FTy.f32 (BitVec.ofNat 32 (fl a (n + 1)))) ((a n : ℝ) : EReal) = ((main a n : ℝ) : EReal) := by
  rw [frac_coe n hn]
  unfold main
  by_cases h : Crosses a n
  · rw [if_pos h, (crosses_word n hn hp).mpr h]; rfl
  · rw [if_neg h, bit_zero fun e => h ((crosses_word n hn hp).mp e)]; rfl

include hn hp in
theorem rest_select : Scalar.select (IntOp.cmpi .ne (BitVec.ofNat 32 (fl a (n + 1))) (BitVec.ofNat 32 (fl a n)))
    (((a n : ℝ) : EReal) - (((pre a (n + 1) : ℝ) : EReal) - FloatOps.sitofp (F := Ideal) FTy.f32 (BitVec.ofNat 32 (fl a (n + 1))))) 0 = ((rest a n : ℝ) : EReal) := by
  rw [frac_coe n hn, ← EReal.coe_sub]
  unfold rest
  by_cases h : Crosses a n
  · rw [if_pos h, (crosses_word n hn hp).mpr h]; rfl
  · rw [if_neg h, bit_zero fun e => h ((crosses_word n hn hp).mp e)]; rfl

end Shares

end Cert.Proof.Warp

end
-- ==== Proof.Stage1Value.lean ====
/- The first call's three results at an entry: the two shares as real numbers and the row as a word. -/
module

public import proofs.«01_k».proof.Proof.Gen.KernelIdeal.Skeleton
public import proofs.«01_k».proof.Proof.Warp
public import Idealize.ShloMosaic.Lib.Pointwise

@[expose] public section

set_option maxRecDepth 16384

noncomputable section

namespace Cert.Proof.Stage1Value

open Cert.KernelIdeal Cert.KernelIdeal.Gen
open Idealize.ShloMosaic
open Cert.Proof.Warp

variable (x : Vec Ideal S64x128x64 .f32) (w : Vec Ideal S1x1x64 .f32) (a : ℕ → ℝ)

/-- `a` is the sequence of weights, entry `128 s + l` the logistic value of row `(s, l)`'s product. -/
def Weighs : Prop := ∀ (s : Fin 64) (l : Fin 128), a (128 * s.val + l.val) = sig (∑ d : Fin 64, x (ix3 s l d) * w (ix3 0 0 d))

variable {x w a} (ha : Weighs x w a) (h0 : ∀ n, 0 ≤ a n) (h1 : ∀ n, a n ≤ 1)

include ha in
theorem pay1_at (s : Fin 64) (l : Fin 128) : k0_pay1 x w (ix2 s l) = ((a (128 * s.val + l.val) : ℝ) : EReal) := by
  rw [ha s l, sig_coe]
  pointwise [k0_pay1]

include ha in
theorem pay2_at (s : Fin 64) (l : Fin 128) : k0_pay2 x w (ix2 s l) = ((pre a (128 * s.val + l.val + 1) : ℝ) : EReal) := by
  have h := pay1_at ha
  unfold k0_pay2
  generalize k0_pay1 x w = A at h
  pointwise []
  rw [← pre_blocks a s l, EReal.coe_add, coe_sum, coe_sum]
  congr 1
  · refine Finset.sum_congr rfl fun l' _ => ?_
    rw [h, WordCmp.cmpi_sle_ofNat (by have := l'.isLt; omega) (by have := l.isLt; omega), sitofp_decide, EReal.coe_mul]
  · refine Finset.sum_congr rfl fun s' _ => ?_
    rw [WordCmp.cmpi_slt_ofNat (by have := s'.isLt; omega) (by have := s.isLt; omega), sitofp_decide, EReal.coe_mul, coe_sum]
    congr 1
    refine Finset.sum_congr rfl fun l' _ => ?_
    rw [h, WordCmp.cmpi_sle_ofNat (by have := l'.isLt; omega) (by omega), sitofp_decide, EReal.coe_mul]

include h0 h1 in
theorem fl_small (s : Fin 64) (l : Fin 128) : fl a (128 * s.val + l.val + 1) < 2 ^ 31 := by
  have := fl_le h0 h1 (128 * s.val + l.val + 1)
  have := s.isLt; have := l.isLt; omega

include h0 h1 in
theorem fl_small' (s : Fin 64) (l : Fin 128) : fl a (128 * s.val + l.val) < 2 ^ 31 := by
  have := fl_le h0 h1 (128 * s.val + l.val)
  have := s.isLt; have := l.isLt; omega

include ha h0 h1 in
/-- The row of an entry. -/
theorem index_at (s : Fin 64) (l : Fin 128) : k0_pay3 x w (ix2 s l) = BitVec.ofNat 32 (fl a (128 * s.val + l.val + 1)) := by
  have h := pay2_at ha
  unfold k0_pay3
  generalize k0_pay2 x w = A at h
  pointwise []
  rw [h]
  exact fptosi_floor _ (pre_nonneg h0 _) (fl_small h0 h1 s l)

include ha h0 h1 in
/-- The row before an entry. -/
theorem before_at (s : Fin 64) (l : Fin 128) :
    FloatOps.fptosi (F := Ideal) (φ := .f32) 32 (Ideal.liftRound Int.floor (k0_pay2 x w (ix2 s l) - k0_pay1 x w (ix2 s l))) = BitVec.ofNat 32 (fl a (128 * s.val + l.val)) := by
  rw [pay2_at ha, pay1_at ha, ← EReal.coe_sub, pre_succ, add_sub_cancel_right]
  exact fptosi_floor _ (pre_nonneg h0 _) (fl_small' h0 h1 s l)

include ha h0 h1 in
/-- The share an entry gives to its own row. -/
theorem main_at (s : Fin 64) (l : Fin 128) : k0_pay6 x w (ix2 s l) = ((main a (128 * s.val + l.val) : ℝ) : EReal) := by
  have e1 := pay1_at ha s l
  have e2 := pay2_at ha s l
  have e3 := index_at ha h0 h1 s l
  have e4 := before_at ha h0 h1 s l
  unfold k0_pay6 k0_pay5 k0_pay4
  pointwise []
  rw [e4, e3, e2, e1]
  exact main_select _ (fl_small h0 h1 s l) (fl_small' h0 h1 s l)

include ha h0 h1 in
/-- The share an entry gives to the row above. -/
theorem rest_at (s : Fin 64) (l : Fin 128) : k0_pay7 x w (ix2 s l) = ((rest a (128 * s.val + l.val) : ℝ) : EReal) := by
  have e1 := pay1_at ha s l
  have e2 := pay2_at ha s l
  have e3 := index_at ha h0 h1 s l
  have e4 := before_at ha h0 h1 s l
  unfold k0_pay7 k0_pay5 k0_pay4
  pointwise []
  rw [e4, e3, e2, e1]
  exact rest_select _ (fl_small h0 h1 s l) (fl_small' h0 h1 s l)

end Cert.Proof.Stage1Value

end
-- ==== Proof.Words.lean ====
/- The first row of a block's window, as a number. -/
module

public import Idealize.ShloMosaic.PureOps
public import Idealize.ShloMosaic.Lib.WordCmp

@[expose] public section

namespace Cert.Proof.Words

open Idealize.ShloMosaic

/-- `max(w, 1) - 1` on a word below `2 ^ 31` is the number's predecessor. -/
theorem base_toNat (w : BitVec 32) (h : w.toNat < 2 ^ 31) : (Scalar.subi (Scalar.maxsi w 1#32) 1#32).toNat = w.toNat - 1 := by
  have e : (Scalar.maxsi w 1#32) = if w.toNat = 0 then 1#32 else w := by
    show (if (1#32).slt w then w else 1#32) = _
    simp only [BitVec.slt, BitVec.toInt_eq_toNat_cond, BitVec.toNat_ofNat]
    by_cases h0 : w.toNat = 0
    · rw [if_pos h0, if_neg (by rw [h0]; decide)]
    · by_cases h1 : w.toNat = 1
      · rw [if_neg h0, if_neg (by rw [h1]; decide)]; exact (BitVec.eq_of_toNat_eq h1).symm
      · rw [if_neg h0, if_pos (by rw [if_pos (by omega), if_pos (by omega)]; simp; omega)]
  rw [e]
  split
  · rename_i h0; rw [h0]; rfl
  · rename_i h0
    show (w - 1#32).toNat = _
    rw [BitVec.toNat_sub]; simp only [BitVec.toNat_ofNat]; omega

end Cert.Proof.Words
-- ==== Proof.Between.lean ====
/- What the second call finds: the first call's results cut into blocks, and each block's first row. -/
module

public import proofs.«01_k».proof.Proof.Run
public import proofs.«01_k».proof.Proof.Stage1Value
public import proofs.«01_k».proof.Proof.Words
public import Idealize.ShloMosaic.Lib.Pipeline.ValueKit
public import Idealize.ShloMosaic.Lib.StableHlo.ReadAt
public import Idealize.ShloMosaic.Lib.Pointwise
public import Idealize.ShloMosaic.Lib.WordArith
public import Idealize.ShloMosaic.PureOps.Reduce

@[expose] public section

set_option maxRecDepth 16384

noncomputable section

namespace Cert.Proof.Between

open Cert.KernelIdeal Cert.KernelIdeal.Gen
open Idealize.ShloMosaic Idealize.ShloMosaic.TcCoe Idealize.ShloMosaic.Tactic
open Cert.Proof.Warp Cert.Proof.Run

variable (m : (ℓ : Loc nD τ sig) → Buf (Elt Ideal) ℓ) (c : Dev nD)

theorem first_at (s : Fin 64) (l : Fin 128) (d : Fin 64) :
    V1 m c main_v0 (ix3 s l d) = m (c, main_arg0) (ix2 ⟨s.val * 128 + l.val, by omega⟩ d) := by
  unfold V1
  after_reads_at

theorem second_at (d : Fin 64) : V1 m c main_v1 (ix3 0 0 d) = m (c, main_arg1) (ix2 d 0) := by
  unfold V1
  after_reads_at

theorem zeros2 : (![0, 0] : Fin 2 → ℕ) = fun _ => 0 := by decide
theorem zeros3 : (![0, 0, 0] : Fin 3 → ℕ) = fun _ => 0 := by decide

theorem whole0 : Stage1.iblk (fun c b => V1 m c b) c 0 t0_0 = V1 m c main_v0 := by
  have e : win0_0.index t0_0 = ![0, 0, 0] := by decide +kernel
  funext x
  blk_simp [Stage1.iblk]
  congr 1
  blk_ext [e]

theorem whole1 : Stage1.iblk (fun c b => V1 m c b) c 1 t0_0 = V1 m c main_v1 := by
  have e : win0_1.index t0_0 = ![0, 0, 0] := by decide +kernel
  funext x
  blk_simp [Stage1.iblk]
  congr 1
  blk_ext [e]

theorem left_main : V2 m (outs0 m) c main_v2_0 = k0_pay6 (V1 m c main_v0) (V1 m c main_v1) := by
  have h : V2 m (outs0 m) c main_v2_0 = (Stage1.dat (fun c b => V1 m c b) c).arrAt 2 cfg0.N := by
    unfold V2
    rw [Function.update_of_ne (by decide), Function.update_of_ne (by decide), Function.update_self]
    unfold outs0
    rw [Function.update_of_ne (by decide), Function.update_of_ne (by decide), Function.update_self]
  rw [h]
  refine (Stage1.dat (fun c b => V1 m c b) c).arrAt_eq_of_after_last 2 t0_0 (by decide +kernel) _ fun j => ?_
  blk_simp
  rw [Stage1.after_2, whole0, whole1]
  unfold Stage1.weightOut
  rw [View.canon_unit_zero zeros2, View.ld_unit_zero zeros3, View.ld_unit_zero zeros3]

theorem left_rest : V2 m (outs0 m) c main_v2_1 = k0_pay7 (V1 m c main_v0) (V1 m c main_v1) := by
  have h : V2 m (outs0 m) c main_v2_1 = (Stage1.dat (fun c b => V1 m c b) c).arrAt 3 cfg0.N := by
    unfold V2
    rw [Function.update_of_ne (by decide), Function.update_self]
    unfold outs0
    rw [Function.update_of_ne (by decide), Function.update_self]
  rw [h]
  refine (Stage1.dat (fun c b => V1 m c b) c).arrAt_eq_of_after_last 3 t0_0 (by decide +kernel) _ fun j => ?_
  blk_simp
  rw [Stage1.after_3, whole0, whole1]
  unfold Stage1.crossOut
  rw [View.canon_unit_zero zeros2, View.ld_unit_zero zeros3, View.ld_unit_zero zeros3]

theorem left_row : V2 m (outs0 m) c main_v2_2 = k0_pay3 (V1 m c main_v0) (V1 m c main_v1) := by
  have h : V2 m (outs0 m) c main_v2_2 = (Stage1.dat (fun c b => V1 m c b) c).arrAt 4 cfg0.N := by
    unfold V2
    rw [Function.update_self]
    unfold outs0
    rw [Function.update_self]
  rw [h]
  refine (Stage1.dat (fun c b => V1 m c b) c).arrAt_eq_of_after_last 4 t0_0 (by decide +kernel) _ fun j => ?_
  blk_simp
  rw [Stage1.after_4, whole0, whole1]
  unfold Stage1.indexOut
  rw [View.canon_unit_zero zeros2, View.ld_unit_zero zeros3, View.ld_unit_zero zeros3]

/-! ## The weights as one sequence -/

/-- The weight of each entry, zero past the last. -/
def seq (X : Vec Ideal S8192x64 .f32) (w : Vec Ideal S64x1 .f32) (n : ℕ) : ℝ :=
  if h : n < 8192 then sig (∑ d : Fin 64, X (ix2 ⟨n, h⟩ d) * w (ix2 d 0)) else 0

theorem seq_of_lt (X : Vec Ideal S8192x64 .f32) (w : Vec Ideal S64x1 .f32) (n : Fin 8192) :
    seq X w n.val = sig (∑ d : Fin 64, X (ix2 n d) * w (ix2 d 0)) := dif_pos n.isLt

theorem seq_nonneg (X : Vec Ideal S8192x64 .f32) (w : Vec Ideal S64x1 .f32) (n : ℕ) : 0 ≤ seq X w n := by
  unfold seq; split
  · exact sig_nonneg _
  · exact le_rfl

theorem seq_le_one (X : Vec Ideal S8192x64 .f32) (w : Vec Ideal S64x1 .f32) (n : ℕ) : seq X w n ≤ 1 := by
  unfold seq; split
  · exact sig_le_one _
  · exact zero_le_one

/-- The launch's weights. -/
abbrev wt : ℕ → ℝ := seq (m (c, main_arg0)) (m (c, main_arg1))

theorem weighs : Stage1Value.Weighs (V1 m c main_v0) (V1 m c main_v1) (wt m c) := by
  intro s l
  have e : 128 * s.val + l.val = (⟨s.val * 128 + l.val, by omega⟩ : Fin 8192).val := by show _ = s.val * 128 + l.val; omega
  rw [e, wt, seq_of_lt]
  refine congrArg sig (Finset.sum_congr rfl fun d _ => ?_)
  rw [first_at, second_at]

/-! ## The blocks of the second call -/

theorem row_at (k : Fin 16) (s : Fin 4) (l : Fin 128) : V3 m (outs0 m) c main_v5 (ix3 k s l)
    = BitVec.ofNat 32 (fl (wt m c) (512 * k.val + 128 * s.val + l.val + 1)) := by
  have h : V3 m (outs0 m) c main_v5 (ix3 k s l)
      = V2 m (outs0 m) c main_v2_2 (ix2 ⟨k.val * 4 + s.val, by omega⟩ l) := by
    unfold V3
    generalize V2 m (outs0 m) c = V
    after_reads_at
  rw [h, left_row, Stage1Value.index_at (weighs m c) (seq_nonneg _ _) (seq_le_one _ _)]
  congr 2; show 128 * (k.val * 4 + s.val) + _ + 1 = _; omega

theorem main_at (k : Fin 16) (s : Fin 4) (l : Fin 128) : V3 m (outs0 m) c main_v6 (ix3 k s l)
    = ((main (wt m c) (512 * k.val + 128 * s.val + l.val) : ℝ) : EReal) := by
  have h : V3 m (outs0 m) c main_v6 (ix3 k s l)
      = V2 m (outs0 m) c main_v2_0 (ix2 ⟨k.val * 4 + s.val, by omega⟩ l) := by
    unfold V3
    generalize V2 m (outs0 m) c = V
    after_reads_at
  rw [h, left_main, Stage1Value.main_at (weighs m c) (seq_nonneg _ _) (seq_le_one _ _)]
  congr 2; show 128 * (k.val * 4 + s.val) + _ = _; omega

theorem rest_at (k : Fin 16) (s : Fin 4) (l : Fin 128) : V3 m (outs0 m) c main_v7 (ix3 k s l)
    = ((Warp.rest (wt m c) (512 * k.val + 128 * s.val + l.val) : ℝ) : EReal) := by
  have h : V3 m (outs0 m) c main_v7 (ix3 k s l)
      = V2 m (outs0 m) c main_v2_1 (ix2 ⟨k.val * 4 + s.val, by omega⟩ l) := by
    unfold V3
    generalize V2 m (outs0 m) c = V
    after_reads_at
  rw [h, left_rest, Stage1Value.rest_at (weighs m c) (seq_nonneg _ _) (seq_le_one _ _)]
  congr 2; show 128 * (k.val * 4 + s.val) + _ = _; omega

theorem minsi_ofNat (a b : ℕ) (h : a ≤ b) (hb : b < 2 ^ 31) :
    IntOp.minsi (BitVec.ofNat 32 a) (BitVec.ofNat 32 b) = BitVec.ofNat 32 a := by
  apply BitVec.eq_of_toNat_eq
  rw [WordArith.toNat_minsi_of_lt _ _ (by rw [BitVec.toNat_ofNat]; omega) (by rw [BitVec.toNat_ofNat]; omega)]
  simp only [BitVec.toNat_ofNat]; omega

/-- The least of a family of words, one of which is below every other and below the start. -/
theorem fold_minsi {ι : Type} [DecidableEq ι] (s : Finset ι) (f : ι → BitVec 32) (b : BitVec 32) (i : ι) (hi : i ∈ s)
    (hb : IntOp.minsi (f i) b = f i) (hf : ∀ j ∈ s, IntOp.minsi (f i) (f j) = f i) : s.fold IntOp.minsi b f = f i := by
  have key : ∀ T : Finset ι, (∀ j ∈ T, IntOp.minsi (f i) (f j) = f i) → IntOp.minsi (f i) (T.fold IntOp.minsi b f) = f i := by
    intro T
    induction T using Finset.induction_on with
    | empty => intro _; rw [Finset.fold_empty, hb]
    | insert a T ha ih =>
      intro hT
      rw [Finset.fold_insert ha, ← Std.Associative.assoc (op := IntOp.minsi), hT a (Finset.mem_insert_self _ _),
        ih fun j hj => hT j (Finset.mem_insert_of_mem hj)]
  rw [← Finset.insert_erase hi, Finset.fold_insert (Finset.notMem_erase _ _)]
  exact key _ fun j hj => hf j (Finset.mem_of_mem_erase hj)

theorem wt_le (n : ℕ) : fl (wt m c) n ≤ n := fl_le (seq_nonneg _ _) (seq_le_one _ _) n

/-- The first row of a block. -/
theorem start_at (k : Fin 16) : V3 m (outs0 m) c main_v4 (ix1 k) = BitVec.ofNat 32 (fl (wt m c) (512 * k.val + 1)) := by
  have h : V3 m (outs0 m) c main_v4 (ix1 k)
      = Finset.univ.fold IntOp.minsi 2147483647#32 fun j : Fin 512 => V2 m (outs0 m) c main_v2_2 (ix2 ⟨k.val * 4 + j.val / 128, by omega⟩ ⟨j.val % 128, by omega⟩) := by
    unfold V3
    generalize V2 m (outs0 m) c = V
    after_reads_at
  have e : (fun j : Fin 512 => V2 m (outs0 m) c main_v2_2 (ix2 ⟨k.val * 4 + j.val / 128, by omega⟩ ⟨j.val % 128, by omega⟩))
      = fun j : Fin 512 => BitVec.ofNat 32 (fl (wt m c) (512 * k.val + j.val + 1)) := by
    funext j
    rw [left_row, Stage1Value.index_at (weighs m c) (seq_nonneg _ _) (seq_le_one _ _)]
    congr 2; show 128 * (k.val * 4 + j.val / 128) + j.val % 128 + 1 = _; omega
  rw [h, e, fold_minsi Finset.univ _ _ (0 : Fin 512) (Finset.mem_univ _)]
  · rfl
  · have := wt_le m c (512 * k.val + (0 : Fin 512).val + 1)
    have h0 : (0 : Fin 512).val = 0 := rfl
    exact minsi_ofNat _ 2147483647 (by omega) (by omega)
  · intro j _
    have := wt_le m c (512 * k.val + j.val + 1)
    exact minsi_ofNat _ _ (fl_mono (seq_nonneg _ _) (by have h0 : (0 : Fin 512).val = 0 := rfl; omega)) (by omega)

/-! ## The window of every point fits -/

theorem fits_of_le (w : BitVec 32) (h : w.toNat ≤ 8192) : k1_chk1 w := by
  intro a
  have e := Words.base_toNat w (by omega)
  fin_cases a
  · show (Scalar.subi (Scalar.maxsi w 1#32) 1#32).toNat + 528 ≤ 8720
    rw [e]; omega
  · show 0 + 64 ≤ 64
    omega

theorem word_eq (c : Dev nD) (t : Fin cfg1.N) : Stage2.wordAt (fun c b => V3 m (outs0 m) c b) c t
    = V3 m (outs0 m) c main_v4 (ix1 ⟨t.val, lt_of_lt_of_eq t.isLt N_1⟩) := by
  have e : k1_off1 (grid1.coords t) 0 = t.val := (by decide +kernel : ∀ t : Fin grid1.N, k1_off1 (grid1.coords t) 0 = t.val) t
  have e4 : win1_4.index t = ![0] := (by decide +kernel : ∀ t : Fin grid1.N, win1_4.index t = ![0]) t
  unfold Stage2.wordAt Stage2.word View.ld Stage2.iblk
  rw [View.read_apply, cast_eq]
  refine congrArg (V3 m (outs0 m) c main_v4) ?_
  blk_ext [e4]
  show k1_off1 (grid1.coords t) 0 + 1 * 0 = t.val
  rw [e, Nat.mul_zero, Nat.add_zero]

/-- A block's first row as a number. -/
theorem word_toNat (c : Dev nD) (t : Fin cfg1.N) : (Stage2.wordAt (fun c b => V3 m (outs0 m) c b) c t).toNat = fl (wt m c) (512 * t.val + 1) := by
  have ht : t.val < 16 := lt_of_lt_of_eq t.isLt N_1
  have h : fl (wt m c) (512 * t.val + 1) ≤ 512 * t.val + 1 := wt_le m c _
  rw [word_eq, start_at, BitVec.toNat_ofNat]
  exact Nat.mod_eq_of_lt (lt_of_le_of_lt h (by omega))

theorem fit : Fit m := by
  intro c t
  refine fits_of_le _ ?_
  rw [word_toNat]
  have ht : t.val < 16 := lt_of_lt_of_eq t.isLt N_1
  have h : fl (wt m c) (512 * t.val + 1) ≤ 512 * t.val + 1 := wt_le m c _
  omega

end Cert.Proof.Between
-- ==== Proof.Stage2Value.lean ====
/- What the second call adds at one grid point, at an entry of its window. -/
module

public import proofs.«01_k».proof.Proof.Stage2
public import proofs.«01_k».proof.Proof.Words
public import Idealize.ShloMosaic.Lib.Pointwise
public import Idealize.ShloMosaic.Lib.WordCmp

@[expose] public section

set_option maxRecDepth 16384

noncomputable section

namespace Cert.Proof.Stage2Value

open Cert.KernelIdeal Cert.KernelIdeal.Gen
open Idealize.ShloMosaic
open Cert.Proof.Stage2

variable (w : BitVec 32) (x1 : Vec Ideal S512x64 .f32) (x2 : Vec Ideal S1x4x128 .i32) (x3 x4 : Vec Ideal S1x4x128 .f32)

/-- The factor that row `r` of the window takes entry `(s, l)` of the block with. -/
def share (r : ℕ) (s : Fin 4) (l : Fin 128) : EReal :=
  Scalar.select (IntOp.cmpi .eq (BitVec.ofNat 32 r) (IntOp.subi (x2 (ix3 0 s l)) (base w))) (x3 (ix3 0 s l)) 0
    + Scalar.select (IntOp.cmpi .eq (BitVec.ofNat 32 r) (IntOp.subi (IntOp.subi (x2 (ix3 0 s l)) (base w)) 1#32)) (x4 (ix3 0 s l)) 0

/-- What sub-block `s` adds at row `r` of the window. -/
def piece (r : Fin 528) (d : Fin 64) (s : Fin 4) : EReal :=
  ∑ l : Fin 128, share w x2 x3 x4 r.val s l * x1 (ix2 ⟨128 * s.val + l.val, by omega⟩ d)

theorem sum01_at (r : Fin 528) (d : Fin 64) : sum01 w x1 x2 x3 x4 (ix2 r d) = piece w x1 x2 x3 x4 r d 0 + piece w x1 x2 x3 x4 r d 1 := by
  unfold sum01 piece share
  pointwise [k1_pay3, k1_pay4]
  rfl

theorem sum02_at (r : Fin 528) (d : Fin 64) : sum02 w x1 x2 x3 x4 (ix2 r d) = sum01 w x1 x2 x3 x4 (ix2 r d) + piece w x1 x2 x3 x4 r d 2 := by
  unfold sum02 piece share
  generalize sum01 w x1 x2 x3 x4 = A
  pointwise [k1_pay5, k1_pay6, k1_pay7, k1_pay8, k1_pay9]

theorem last_at (r : Fin 528) (d : Fin 64) : k1_pay10 (base w) rows (View.ld x2 q3) (View.ld x3 q3) (View.ld x4 q3) (View.ld x1 p3) (ix2 r d)
    = piece w x1 x2 x3 x4 r d 3 := by
  unfold piece share
  pointwise [k1_pay10]

/-- The window's new contents: the old ones and the four sub-blocks' sums. -/
theorem added_at (cur : Vec Ideal S528x64 .f32) (r : Fin 528) (d : Fin 64) :
    k1_pay1 (sum02 w x1 x2 x3 x4) (k1_pay10 (base w) rows (View.ld x2 q3) (View.ld x3 q3) (View.ld x4 q3) (View.ld x1 p3)) cur (ix2 r d)
      = cur (ix2 r d) + ∑ s : Fin 4, piece w x1 x2 x3 x4 r d s := by
  have h : k1_pay1 (sum02 w x1 x2 x3 x4) (k1_pay10 (base w) rows (View.ld x2 q3) (View.ld x3 q3) (View.ld x4 q3) (View.ld x1 p3)) cur (ix2 r d)
      = cur (ix2 r d) + (sum02 w x1 x2 x3 x4 (ix2 r d) + k1_pay10 (base w) rows (View.ld x2 q3) (View.ld x3 q3) (View.ld x4 q3) (View.ld x1 p3) (ix2 r d)) := by
    generalize sum02 w x1 x2 x3 x4 = A
    generalize k1_pay10 (base w) rows (View.ld x2 q3) (View.ld x3 q3) (View.ld x4 q3) (View.ld x1 p3) = B
    pointwise [k1_pay1]
  rw [h, sum02_at, sum01_at, last_at, Fin.sum_univ_four]

/-! ## The accumulator at an entry -/

variable {w}

theorem pooled_in (hw : k1_chk1 w) (z : Vec Ideal S8720x64 .f32) (ρ : Fin 8720) (d : Fin 64) (r : Fin 528) (hr : ρ.val = (base w).toNat + r.val) :
    pooled w hw x1 x2 x3 x4 z (ix2 ρ d) = z (ix2 ρ d) + ∑ s : Fin 4, piece w x1 x2 x3 x4 r d s := by
  have e : (win w hw).emb (ix2 r d) = ix2 ρ d := by
    funext a
    apply Fin.ext
    fin_cases a
    · show (base w).toNat + 1 * r.val = ρ.val
      omega
    · show 0 + 1 * d.val = d.val
      omega
  unfold pooled
  rw [← e, View.canon_cons_emb, added_at]
  rfl

theorem pooled_out (hw : k1_chk1 w) (z : Vec Ideal S8720x64 .f32) (ρ : Fin 8720) (d : Fin 64)
    (hρ : ρ.val < (base w).toNat ∨ (base w).toNat + 528 ≤ ρ.val) : pooled w hw x1 x2 x3 x4 z (ix2 ρ d) = z (ix2 ρ d) := by
  unfold pooled
  rw [View.canon_cons_of_not_mem, View.canon_unit_zero zero_off]
  intro hm
  obtain ⟨x, hx⟩ := (win w hw).exists_idx_of_mem hm
  have h0 : (base w).toNat + 1 * (x 0).val = ρ.val := congrArg (fun j : S8720x64.Idx => (j 0).val) hx
  have := (x 0).isLt
  have h1 : (x 0).val < 528 := this
  omega

/-! ## In numbers -/

/-- The factor of an entry of row number `R` in row `ρ`, its two shares `u` and `v`. -/
def factor (R : ℕ) (u v : EReal) (ρ : ℕ) : EReal := (if R = ρ then u else 0) + (if R = ρ + 1 then v else 0)

theorem share_eq (r : ℕ) (s : Fin 4) (l : Fin 128) (R B : ℕ) (hR : x2 (ix3 0 s l) = BitVec.ofNat 32 R) (hB : (base w).toNat = B)
    (hR' : R < 2 ^ 31) (hr : B + r + 1 < 2 ^ 31) :
    share w x2 x3 x4 r s l = factor R (x3 (ix3 0 s l)) (x4 (ix3 0 s l)) (B + r) := by
  have e : base w = BitVec.ofNat 32 B := BitVec.eq_of_toNat_eq (by rw [hB, BitVec.toNat_ofNat, Nat.mod_eq_of_lt]; omega)
  unfold share factor
  rw [hR, e, WordCmp.cmpi_eq_eq_toNat, WordCmp.cmpi_eq_eq_toNat, WordCmp.select_decide, WordCmp.select_decide]
  have h1 : ((BitVec.ofNat 32 r).toNat = (IntOp.subi (BitVec.ofNat 32 R) (BitVec.ofNat 32 B)).toNat) ↔ R = B + r := by
    show _ = (BitVec.ofNat 32 R - BitVec.ofNat 32 B).toNat ↔ _
    simp only [BitVec.toNat_sub, BitVec.toNat_ofNat]; omega
  have h2 : ((BitVec.ofNat 32 r).toNat = (IntOp.subi (IntOp.subi (BitVec.ofNat 32 R) (BitVec.ofNat 32 B)) 1#32).toNat) ↔ R = B + r + 1 := by
    show _ = (BitVec.ofNat 32 R - BitVec.ofNat 32 B - 1#32).toNat ↔ _
    simp only [BitVec.toNat_sub, BitVec.toNat_ofNat]; omega
  simp only [h1, h2]

/-- A block's entries, by sub-block and place. -/
structure Block (R : ℕ → ℕ) (u v : ℕ → EReal) : Prop where
  row : ∀ (s : Fin 4) (l : Fin 128), x2 (ix3 0 s l) = BitVec.ofNat 32 (R (128 * s.val + l.val))
  main : ∀ (s : Fin 4) (l : Fin 128), x3 (ix3 0 s l) = u (128 * s.val + l.val)
  rest : ∀ (s : Fin 4) (l : Fin 128), x4 (ix3 0 s l) = v (128 * s.val + l.val)
  low : ∀ n < 512, (base w).toNat ≤ R n
  high : ∀ n < 512, R n < (base w).toNat + 528
  small : (base w).toNat ≤ 8192
  carried : ∀ n < 512, v n ≠ 0 → (base w).toNat + 1 ≤ R n

/-- A point adds, at every row, each entry of its block with that entry's factor. -/
theorem pooled_at {R : ℕ → ℕ} {u v : ℕ → EReal} (h : Block (w := w) x2 x3 x4 R u v) (hw : k1_chk1 w) (z : Vec Ideal S8720x64 .f32) (ρ : Fin 8720) (d : Fin 64) :
    pooled w hw x1 x2 x3 x4 z (ix2 ρ d) = z (ix2 ρ d)
      + ∑ s : Fin 4, ∑ l : Fin 128, factor (R (128 * s.val + l.val)) (u (128 * s.val + l.val)) (v (128 * s.val + l.val)) ρ.val * x1 (ix2 ⟨128 * s.val + l.val, by omega⟩ d) := by
  have hs := h.small
  by_cases hρ : (base w).toNat ≤ ρ.val ∧ ρ.val < (base w).toNat + 528
  · have hr : ρ.val = (base w).toNat + (⟨ρ.val - (base w).toNat, by omega⟩ : Fin 528).val := by show _ = _ + (ρ.val - _); omega
    rw [pooled_in x1 x2 x3 x4 hw z ρ d _ hr]
    congr 1
    refine Finset.sum_congr rfl fun s _ => Finset.sum_congr rfl fun l _ => ?_
    have hl : 128 * s.val + l.val < 512 := by omega
    have hh := h.high _ hl
    rw [share_eq x2 x3 x4 _ s l _ _ (h.row s l) rfl (by omega) (by rw [← hr]; omega), ← hr, h.main s l, h.rest s l]
  · rw [pooled_out x1 x2 x3 x4 hw z ρ d (by omega), Finset.sum_eq_zero, add_zero]
    intro s _
    refine Finset.sum_eq_zero fun l _ => ?_
    have hl : 128 * s.val + l.val < 512 := by omega
    have hlow := h.low _ hl
    have hhigh := h.high _ hl
    have hz : factor (R (128 * s.val + l.val)) (u (128 * s.val + l.val)) (v (128 * s.val + l.val)) ρ.val = 0 := by
      unfold factor
      rw [if_neg (by omega), zero_add]
      split
      · by_contra hv
        have := h.carried _ hl hv
        omega
      · rfl
    rw [hz, zero_mul]

end Cert.Proof.Stage2Value
-- ==== Proof.KernelValue.lean ====
/- The kernel's result at an entry: the sum of all rows of the input, each with its factor. -/
module

public import proofs.«01_k».proof.Proof.Between
public import proofs.«01_k».proof.Proof.Stage2Value

@[expose] public section

set_option maxRecDepth 16384

noncomputable section

namespace Cert.Proof.KernelValue

open Cert.KernelIdeal Cert.KernelIdeal.Gen
open Idealize.ShloMosaic Idealize.ShloMosaic.TcCoe Idealize.ShloMosaic.Tactic
open Cert.Proof.Warp Cert.Proof.Run Cert.Proof.Between Cert.Proof.Stage2Value

/-- What entry `i` adds to row `ρ`. -/
def term (X : Vec Ideal S8192x64 .f32) (a : ℕ → ℝ) (ρ : ℕ) (d : Fin 64) (i : ℕ) : EReal :=
  factor (fl a (i + 1)) ((main a i : ℝ) : EReal) ((Warp.rest a i : ℝ) : EReal) ρ * (if h : i < 8192 then X (ix2 ⟨i, h⟩ d) else 0)

variable (m : (ℓ : Loc nD τ sig) → Buf (Elt Ideal) ℓ) (c : Dev nD)

/-- The buffers as the second call finds them. -/
abbrev VV : (c : Dev nD) → (b : Ref sig .tc) → Buf (Elt Ideal) ((c : Thread nD τ).loc b) := fun c b => V3 m (outs0 m) c b

theorem input_eq : V3 m (outs0 m) c main_arg0 = m (c, main_arg0) :=
  (V3_of m (outs0 m) c main_arg0 (by decide)).trans <| (V2_of m (outs0 m) c main_arg0 (by decide)).trans (V1_of m c main_arg0 (by decide))

variable (t : Fin cfg1.N)

/-- A grid point as a block's number. -/
abbrev blockOf : Fin 16 := ⟨t.val, lt_of_lt_of_eq t.isLt N_1⟩

theorem input_at (n : Fin 512) (d : Fin 64) :
    Stage2.iblk (VV m) c 0 t (ix2 n d) = m (c, main_arg0) (ix2 ⟨512 * t.val + n.val, by have := lt_of_lt_of_eq t.isLt N_1; omega⟩ d) := by
  have e : win1_0.index t = ![t.val, 0] := (by decide +kernel : ∀ t : Fin grid1.N, win1_0.index t = ![t.val, 0]) t
  blk_simp [Stage2.iblk]
  refine Eq.trans ?_ (congrFun (input_eq m c) _)
  refine congrArg (V3 m (outs0 m) c main_arg0) ?_
  blk_ext [e]

theorem rows_at (s : Fin 4) (l : Fin 128) : Stage2.iblk (VV m) c 1 t (ix3 0 s l) = V3 m (outs0 m) c main_v5 (ix3 (blockOf t) s l) := by
  have e : win1_1.index t = ![t.val, 0, 0] := (by decide +kernel : ∀ t : Fin grid1.N, win1_1.index t = ![t.val, 0, 0]) t
  blk_simp [Stage2.iblk]
  refine congrArg (V3 m (outs0 m) c main_v5) ?_
  blk_ext [e]

theorem mains_at (s : Fin 4) (l : Fin 128) : Stage2.iblk (VV m) c 2 t (ix3 0 s l) = V3 m (outs0 m) c main_v6 (ix3 (blockOf t) s l) := by
  have e : win1_2.index t = ![t.val, 0, 0] := (by decide +kernel : ∀ t : Fin grid1.N, win1_2.index t = ![t.val, 0, 0]) t
  blk_simp [Stage2.iblk]
  refine congrArg (V3 m (outs0 m) c main_v6) ?_
  blk_ext [e]

theorem rests_at (s : Fin 4) (l : Fin 128) : Stage2.iblk (VV m) c 3 t (ix3 0 s l) = V3 m (outs0 m) c main_v7 (ix3 (blockOf t) s l) := by
  have e : win1_3.index t = ![t.val, 0, 0] := (by decide +kernel : ∀ t : Fin grid1.N, win1_3.index t = ![t.val, 0, 0]) t
  blk_simp [Stage2.iblk]
  refine congrArg (V3 m (outs0 m) c main_v7) ?_
  blk_ext [e]

/-- The first row of a point's window. -/
theorem base_eq : (Stage2.base (Stage2.wordAt (VV m) c t)).toNat = fl (wt m c) (512 * t.val + 1) - 1 := by
  have ht := lt_of_lt_of_eq t.isLt N_1
  have e := word_toNat m c t
  have h : fl (wt m c) (512 * t.val + 1) ≤ 512 * t.val + 1 := wt_le m c _
  rw [← e]
  exact Words.base_toNat _ (by rw [e]; exact lt_of_le_of_lt h (by omega))

/-- The entries of a point's block: their rows lie in the window, and so do the rows before them that take a share. -/
theorem block : Block (w := Stage2.wordAt (VV m) c t) (Stage2.iblk (VV m) c 1 t) (Stage2.iblk (VV m) c 2 t) (Stage2.iblk (VV m) c 3 t)
    (fun n => fl (wt m c) (512 * t.val + n + 1)) (fun n => ((main (wt m c) (512 * t.val + n) : ℝ) : EReal))
    (fun n => ((Warp.rest (wt m c) (512 * t.val + n) : ℝ) : EReal)) := by
  have h0 : ∀ n, 0 ≤ wt m c n := seq_nonneg _ _
  have h1 : ∀ n, wt m c n ≤ 1 := seq_le_one _ _
  have ht := lt_of_lt_of_eq t.isLt N_1
  have hb := base_eq m c t
  have hmono : ∀ n, fl (wt m c) (512 * t.val + 1) ≤ fl (wt m c) (512 * t.val + n + 1) := fun n => fl_mono h0 (by omega)
  refine ⟨fun s l => ?_, fun s l => ?_, fun s l => ?_, fun n hn => ?_, fun n hn => ?_, ?_, fun n hn hv => ?_⟩
  · rw [rows_at, row_at]; simp only [Nat.add_assoc]
  · rw [mains_at, main_at]; simp only [Nat.add_assoc]
  · rw [rests_at, rest_at]; simp only [Nat.add_assoc]
  · have := hmono n; omega
  · have h2 := fl_add_le h0 h1 (512 * t.val + 1) n
    have e : 512 * t.val + 1 + n = 512 * t.val + n + 1 := by omega
    rw [e] at h2; omega
  · have := wt_le m c (512 * t.val + 1); omega
  · have h2 := one_le_of_rest h0 (512 * t.val + n) fun h => hv (by simp only [h, EReal.coe_zero])
    have := hmono n; omega

/-- The accumulator after `n` points holds what the first `512 n` entries add. -/
theorem hold_at (hfit : Fit m) (ρ : Fin 8720) (d : Fin 64) (n : ℕ) (hn : n ≤ 16) :
    Stage2.hold (VV m) hfit c n (ix2 ρ d) = ∑ i ∈ Finset.range (512 * n), term (m (c, main_arg0)) (wt m c) ρ.val d i := by
  induction n with
  | zero =>
    show k1_pay2 (ix2 ρ d) = _
    pointwise [k1_pay2]
    simp
  | succ n ih =>
    have hN : n < cfg1.N := lt_of_lt_of_eq (by omega : n < 16) N_1.symm
    have e := Stage2.hold_succ (VV m) hfit c ⟨n, hN⟩
    rw [e, pooled_at _ _ _ _ (block m c ⟨n, hN⟩), Nat.mul_succ, Finset.sum_range_add]
    congr 1
    · exact ih (by omega)
    · refine Eq.trans ?_ (sum_blocks (fun x => term (m (c, main_arg0)) (wt m c) ρ.val d (512 * n + x)) 128 4).symm
      rw [Finset.sum_range]
      refine Finset.sum_congr rfl fun s _ => ?_
      rw [Finset.sum_range]
      refine Finset.sum_congr rfl fun l _ => ?_
      unfold term
      rw [input_at, dif_pos (by omega)]

/-- The output array, written back once at the point `t₀`, holds the accumulator after it. -/
theorem array_eq (hfit : Fit m) (t₀ : Fin cfg1.N) (h : (cfg1.win 5).WholeAt t₀) :
    (Stage2.dat (VV m) hfit c).arrAt 5 cfg1.N = Stage2.hold (VV m) hfit c (t₀.val + 1) := by
  refine (Stage2.dat (VV m) hfit c).arrAt_eq_of_after_last 5 t₀ h _ fun j => ?_
  blk_simp
  rw [Stage2.after_5]

theorem exists_last : ∃ t₀ : Fin cfg1.N, t₀.val = 15 ∧ (cfg1.win 5).WholeAt t₀ := ⟨⟨15, by decide⟩, rfl, by decide +kernel⟩

/-- The rows kept of the second call's output. -/
theorem kept_at (outs : Outs (F := Ideal)) (r : Fin 8192) (d : Fin 64) :
    V5 m outs c main_v9 (ix2 r d) = V4 m outs c main_v8 (ix2 ⟨r.val, by omega⟩ d) := by
  unfold V5
  generalize V4 m outs c = V
  after_reads_at

/-- The kernel's result at an entry. -/
theorem result_at (hfit : Fit m) (r : Fin 8192) (d : Fin 64) :
    V5 m (outs m hfit) c main_v9 (ix2 r d) = ∑ i : Fin 8192, term (m (c, main_arg0)) (wt m c) r.val d i.val := by
  obtain ⟨t₀, ht, hw⟩ := exists_last
  rw [kept_at, outs_4, array_eq m c hfit t₀ hw, hold_at m c hfit _ _ (t₀.val + 1) (by omega), ht, Finset.sum_range]

end Cert.Proof.KernelValue
-- ==== Proof.RefOps.lean ====
/- Three of the reference's operations at an entry: the running sum, and the two scatters into the square table. -/
module

public import proofs.«01_k».proof.Proof.Gen.ReferenceIdeal
public import proofs.«01_k».proof.Proof.Warp
public import Idealize.ShloMosaic.Lib.Pointwise
public import Idealize.ShloMosaic.Lib.Pointwise.IndexBridge
public import Idealize.ShloMosaic.Lib.Routing.OpsSet
public import Idealize.ShloMosaic.Lib.Routing.OpsPair

@[expose] public section

set_option maxRecDepth 16384

noncomputable section

namespace Cert.Proof.RefOps

open Cert.ReferenceIdeal Cert.ReferenceIdeal.Gen
open Idealize.ShloMosaic
open Cert.Proof.Warp

/-! ## The running sum -/

theorem fold_add {ι : Type} (l : List ι) (g : ι → EReal) (v : EReal) : l.foldl (fun r n => r + g n) v = v + (l.map g).sum := by
  induction l generalizing v with
  | nil => simp
  | cons n l ih => rw [List.foldl_cons, ih, List.map_cons, List.sum_cons, add_assoc]

/-- The window ending at `j`, padded below, reads the entries `0 … j`. -/
theorem window_sum (a : ℕ → ℝ) (N j : ℕ) (hj : j ≤ N) :
    ∑ n ∈ Finset.range (N + 1), (if N ≤ j + n then a (j + n - N) else 0) = pre a (j + 1) := by
  obtain ⟨d, rfl⟩ : ∃ d, N = d + j := ⟨N - j, by omega⟩
  rw [Nat.add_assoc, Finset.sum_range_add, Finset.sum_eq_zero, zero_add]
  · unfold pre
    refine Finset.sum_congr rfl fun i _ => ?_
    rw [if_pos (by omega)]
    congr 1
    omega
  · intro n hn
    have := Finset.mem_range.1 hn
    exact if_neg (by omega)

/-- The running sum of a vector of real numbers. -/
theorem running_sum {N : ℕ} (x : (⟨1, ![N + 1]⟩ : Shape).Idx → EReal) (a : ℕ → ℝ) (hx : ∀ i : Fin (N + 1), x (ix1 i) = ((a i.val : ℝ) : EReal))
    (h : (⟨1, ![N + 1]⟩ : Shape).ReduceWindows (![N + 1] : Fin 1 → ℕ) ![1] ![N] ![0] ⟨1, ![N + 1]⟩) (j : Fin (N + 1)) :
    Ideal.hostReduceWindowAdd ![N + 1] ![1] ![N] ![0] h x 0 (ix1 j) = ((pre a (j.val + 1) : ℝ) : EReal) := by
  have hj := j.isLt
  have hs : ∀ n : Fin (⟨1, ![N + 1]⟩ : Shape).numel, ((⟨1, ![N + 1]⟩ : Shape).rowMajor.symm n 0).val = n.val := fun n => by
    rw [Routing.symm1 (N := N + 1) n]; rfl
  have hc : (⟨1, ![N + 1]⟩ : Shape).numel = N + 1 := Routing.numel1 (N + 1)
  unfold Ideal.hostReduceWindowAdd Host.reduceWindow
  refine (fold_add _ _ _).trans ?_
  rw [zero_add, ← window_sum a N j.val (by omega), coe_sum]
  refine Eq.trans ?_ (congrArg (fun M => ∑ i ∈ Finset.range M, (((if N ≤ j.val + i then a (j.val + i - N) else 0 : ℝ)) : EReal)) hc)
  rw [Finset.sum_range, ← List.sum_ofFn, List.ofFn_eq_map]
  refine congrArg List.sum (List.map_congr_left fun n _ => ?_)
  have hn : n.val < N + 1 := lt_of_lt_of_eq n.isLt hc
  split
  · next hin =>
    have h0 : N ≤ j.val * 1 + ((⟨1, ![N + 1]⟩ : Shape).rowMajor.symm n 0).val := (hin 0).1
    rw [hs] at h0
    rw [if_pos (by omega)]
    refine (congrArg x (funext fun b => Fin.ext ?_)).trans (hx ⟨j.val + n.val - N, by omega⟩)
    match b with
    | ⟨0, _⟩ =>
      show j.val * 1 + ((⟨1, ![N + 1]⟩ : Shape).rowMajor.symm n 0).val - N = j.val + n.val - N
      rw [hs, Nat.mul_one]
  · next hin =>
    rw [if_neg fun hle => hin fun b => ?_]
    · exact EReal.coe_zero.symm
    · match b with
      | ⟨0, _⟩ =>
        show N ≤ j.val * 1 + ((⟨1, ![N + 1]⟩ : Shape).rowMajor.symm n 0).val
          ∧ j.val * 1 + ((⟨1, ![N + 1]⟩ : Shape).rowMajor.symm n 0).val - N < N + 1
        rw [hs]
        omega

/-! ## The scatters -/

abbrev dims : ScatterDims S8192x8192 S8192x2 S8192 := scatter_S8192x8192_S8192x2_S8192_n_01_01_1

theorem window_zero (k : S8192.Idx) (q : Fin 2) : dims.window k q = 0 := by
  unfold ScatterDims.window
  fin_cases q <;> exact dif_neg (by decide)

theorem word_place (k : Fin 8192) (q : Fin 2) (p : Fin dims.scatterDimsToOperandDims.length) (hp : p.val = q.val) : dims.siIdx (ix1 k) p = ix2 k q := by
  funext b
  match b with
  | ⟨0, _⟩ =>
    apply Fin.ext
    unfold ScatterDims.siIdx
    refine (congrArg Fin.val (dif_neg (show ¬((0 : ℕ) = dims.indexVectorDim) by decide))).trans ?_
    rfl
  | ⟨1, _⟩ =>
    apply Fin.ext
    unfold ScatterDims.siIdx
    exact (congrArg Fin.val (dif_pos (show (1 : ℕ) = dims.indexVectorDim from rfl))).trans hp

theorem start_word (idx : IVec S8192x2 32) (k : Fin 8192) (q : Fin 2) : dims.start (ix1 k) idx q = (idx (ix2 k q)).toInt := by
  have hm : q ∈ dims.scatterDimsToOperandDims := by fin_cases q <;> decide
  unfold ScatterDims.start
  rw [dif_pos hm, word_place k q _ (by fin_cases q <;> rfl)]

/-- Update `k` lands where its two words say. -/
theorem lands (idx : IVec S8192x2 32) (k r c : Fin 8192) :
    dims.resultIdx? (ix1 k) idx = some (ix2 r c) ↔ (idx (ix2 k 0)).toInt = r.val ∧ (idx (ix2 k 1)).toInt = c.val := by
  rw [ix2_eq_valueIdx]
  refine (Routing.resultIdx?_ix2 dims (ix1 k) idx r c).trans ?_
  rw [start_word, start_word, window_zero, window_zero]
  omega

variable (x : Vec Ideal S8192x8192 .f32) (idx : IVec S8192x2 32) (upd : Vec Ideal S8192 .f32) (R : ℕ → ℕ)

/-- Update `k` is meant for row `R k` of column `k`. -/
def Columns : Prop := ∀ k : Fin 8192, idx (ix2 k 0) = BitVec.ofNat 32 (R k.val) ∧ idx (ix2 k 1) = BitVec.ofNat 32 k.val

variable {idx R} (hc : Columns idx R) (hR : ∀ k < 8192, R k < 2 ^ 31)

theorem toInt_small (n : ℕ) (h : n < 2 ^ 31) : (BitVec.ofNat 32 n).toInt = (n : Int) := by
  rw [BitVec.toInt_eq_toNat_of_lt (by rw [BitVec.toNat_ofNat]; omega), BitVec.toNat_ofNat, Nat.mod_eq_of_lt (by omega)]

include hc hR in
theorem lands_iff (k r c : Fin 8192) : dims.resultIdx? (ix1 k) idx = some (ix2 r c) ↔ R k.val = r.val ∧ k = c := by
  have hk := k.isLt
  rw [lands, (hc k).1, (hc k).2, toInt_small _ (hR _ hk), toInt_small _ (by omega), Fin.ext_iff]
  omega

theorem index_cases (j : S8192.Idx) : ∃ k : Fin 8192, j = ix1 k := ⟨j 0, by funext b; match b with | ⟨0, _⟩ => rfl⟩

include hc hR in
/-- The scatter that sets. -/
theorem set_at (r c : Fin 8192) :
    Host.scatter dims (fun _ b => b) x idx upd (ix2 r c) = if R c.val = r.val then upd (ix1 c) else x (ix2 r c) := by
  by_cases h : R c.val = r.val
  · rw [if_pos h]
    refine Routing.scatter_set_hit dims x idx upd _ _ (fun j hj => ?_) (ix1 c) ((lands_iff hc hR c r c).2 ⟨h, rfl⟩)
    obtain ⟨k, rfl⟩ := index_cases j
    rw [((lands_iff hc hR k r c).1 hj).2]
  · rw [if_neg h]
    refine Routing.scatter_set_miss dims x idx upd _ fun j hj => ?_
    obtain ⟨k, rfl⟩ := index_cases j
    obtain ⟨e, rfl⟩ := (lands_iff hc hR k r c).1 hj
    exact h e

include hc hR in
/-- The scatter that adds. -/
theorem add_at (r c : Fin 8192) :
    Host.scatterAdd (F := Ideal) (φ := .f32) dims x idx upd (ix2 r c) = x (ix2 r c) + if R c.val = r.val then upd (ix1 c) else 0 := by
  show x (ix2 r c) + ∑ j ∈ Finset.univ.filter (fun j => dims.resultIdx? j idx = some (ix2 r c)), upd j = _
  congr 1
  by_cases h : R c.val = r.val
  · rw [if_pos h]
    have e : Finset.univ.filter (fun j => dims.resultIdx? j idx = some (ix2 r c)) = {ix1 c} := by
      ext j
      obtain ⟨k, rfl⟩ := index_cases j
      rw [Finset.mem_filter, Finset.mem_singleton, lands_iff hc hR]
      constructor
      · rintro ⟨_, _, rfl⟩; rfl
      · intro e
        have e' : k = c := congrFun e 0
        exact ⟨Finset.mem_univ _, by rw [e']; exact h, e'⟩
    rw [e, Finset.sum_singleton]
  · rw [if_neg h]
    refine Finset.sum_eq_zero fun j hj => ?_
    obtain ⟨k, rfl⟩ := index_cases j
    obtain ⟨e, rfl⟩ := (lands_iff hc hR k r c).1 (Finset.mem_filter.1 hj).2
    exact (h e).elim

end Cert.Proof.RefOps

end
-- ==== Proof.RefValue.lean ====
/- The reference's result at an entry: the same sum over all rows of the input, each with its factor. -/
module

public import proofs.«01_k».proof.Proof.Gen.ReferenceIdeal.Run
public import proofs.«01_k».proof.Proof.RefOps
public import Idealize.ShloMosaic.Lib.KernelVsHost

@[expose] public section

set_option maxRecDepth 16384

noncomputable section

namespace Cert.Proof.RefValue

open Cert.ReferenceIdeal Cert.ReferenceIdeal.Gen
open Idealize.ShloMosaic Idealize.ShloMosaic.TcCoe
open Cert.Proof.Warp Cert.Proof.RefOps

/-! ## The reference in stages -/

/-- The weights. -/
def weights (X : FVec Ideal S8192x64 .f32) (W : FVec Ideal S64x1 .f32) : FVec Ideal S8192 .f32 :=
  shapeCast _ (Host.divf (broadcastInDim S8192x1 ![] bcast_S_S8192x1 (constant S_ .f32 0x3F800000#32))
    (addf (broadcastInDim S8192x1 ![] bcast_S_S8192x1 (constant S_ .f32 0x3F800000#32))
      (Host.exp (Host.negf (Host.dotGeneral dot_S8192x64_S64x1_S8192x1_1_0_0_1_n_n none X W))))) shapeCasts_S8192x1_S8192

/-- Their running sum. -/
def sums (A : FVec Ideal S8192 .f32) : FVec Ideal S8192 .f32 :=
  Host.reduceWindowAdd (F := Ideal) (φ := .f32) ![8192] ![1] ![8191] ![0] A (broadcastInDim S_ ![] bcast_S_S_ (constant (F := Ideal) S_ .f32 0x00000000#32)) reduceWindows_S8192_S8192_w8192s1p8191_0 h_S_

/-- Its whole parts. -/
def wholes (B : FVec Ideal S8192 .f32) : IVec S8192 32 := fptosi (F := Ideal) (φ := .f32) 32 (Host.floor B)

/-- Where the whole part changes. -/
def steps (I : IVec S8192 32) : IVec S8192 1 :=
  cmpi .ne I (concatenate S8192 0 [⟨S1, (broadcastInDim S1 ![] bcast_S_S1 (constantI S_ 32 0#32))⟩, ⟨S8191, (extractStridedSlice S8191 ![0] I slices_S8192_S8191_0)⟩] concatenates_S1_S8191_S8192_d0)

/-- The part of the running sum past the whole part. -/
def parts (B : FVec Ideal S8192 .f32) (I : IVec S8192 32) : FVec Ideal S8192 .f32 := subf B (sitofp .f32 I)

/-- The share of an entry's own row. -/
def mains (A B : FVec Ideal S8192 .f32) (I : IVec S8192 32) : FVec Ideal S8192 .f32 := select (steps I) (parts B I) A

/-- The share of the row above. -/
def rests (A B : FVec Ideal S8192 .f32) (I : IVec S8192 32) : FVec Ideal S8192 .f32 :=
  select (steps I) (subf A (parts B I)) (broadcastInDim S8192 ![] bcast_S_S8192 (constant S_ .f32 0x00000000#32))

/-- The row that takes the second share. -/
def aboves (I : IVec S8192 32) : IVec S8192 32 := select (steps I) (subi I (broadcastInDim S8192 ![] bcast_S_S8192 (constantI S_ 32 1#32))) I

/-- A negative index counted from the end. -/
def wrap (I : IVec S8192 32) : IVec S8192 32 :=
  select (cmpi .slt I (broadcastInDim S8192 ![] bcast_S_S8192 (constantI S_ 32 0#32))) (addi I (broadcastInDim S8192 ![] bcast_S_S8192 (constantI S_ 32 8192#32))) I

/-- The pairs of a row and a column. -/
def places (I : IVec S8192 32) : IVec S8192x2 32 :=
  concatenate S8192x2 1 [⟨S8192x1, (broadcastInDim S8192x1 ![0] bcast_S8192_S8192x1_0 (wrap I))⟩,
    ⟨S8192x1, (broadcastInDim S8192x1 ![0] bcast_S8192_S8192x1_0 (wrap (iotaInDim S8192 32 0)))⟩] concatenates_S8192x1_S8192x1_S8192x2_d1

/-- The table of shares. -/
def table (A B : FVec Ideal S8192 .f32) (I : IVec S8192 32) : FVec Ideal S8192x8192 .f32 :=
  Host.scatterAdd (F := Ideal) (φ := .f32) dims
    (Host.scatter dims (fun _ b => b) (broadcastInDim S8192x8192 ![] bcast_S_S8192x8192 (constant (F := Ideal) S_ .f32 0x00000000#32)) (places I) (mains A B I))
    (places (aboves I)) (rests A B I)

/-- The product with the input. -/
def product (T : FVec Ideal S8192x8192 .f32) (X : FVec Ideal S8192x64 .f32) : FVec Ideal S8192x64 .f32 :=
  Host.dotGeneral dot_S8192x8192_S8192x64_S8192x64_1_0_0_1_n_n none T X

theorem staged (m : (ℓ : Loc nD τ sig) → Buf (Elt Ideal) ℓ) (c : Dev nD) :
    Cert.ReferenceIdeal.Value.res_main_v54 m c
      = product (table (weights (m (c, main_arg0)) (m (c, main_arg1))) (sums (weights (m (c, main_arg0)) (m (c, main_arg1))))
          (wholes (sums (weights (m (c, main_arg0)) (m (c, main_arg1)))))) (m (c, main_arg0)) := by
  unfold Cert.ReferenceIdeal.Value.res_main_v54 product table rests mains aboves places wrap parts steps wholes sums weights
  rfl

/-! ## The stages at an entry -/

theorem weights_at (X : FVec Ideal S8192x64 .f32) (W : FVec Ideal S64x1 .f32) (n : Fin 8192) :
    weights X W (ix1 n) = ((sig (∑ d : Fin 64, X (ix2 n d) * W (ix2 d 0)) : ℝ) : EReal) := by
  rw [sig_coe]
  pointwise [weights]
  rfl

variable (A B : FVec Ideal S8192 .f32) (I : IVec S8192 32) (a : ℕ → ℝ)

/-- `I` holds the row of every entry. -/
def Rows : Prop := ∀ n : Fin 8192, I (ix1 n) = BitVec.ofNat 32 (fl a (n.val + 1))

variable {A B I a} (hA : ∀ n : Fin 8192, A (ix1 n) = ((a n.val : ℝ) : EReal)) (h0 : ∀ n, 0 ≤ a n) (h1 : ∀ n, a n ≤ 1)

include hA in
theorem sums_at (n : Fin 8192) : sums A (ix1 n) = ((pre a (n.val + 1) : ℝ) : EReal) := by
  have e : (broadcastInDim S_ ![] bcast_S_S_ (constant (F := Ideal) S_ .f32 0x00000000#32)) (Shape.Idx.first h_S_) = (0 : EReal) := by
    pointwise []
  unfold sums Host.reduceWindowAdd
  rw [Ideal.hostReduceWindowAdd_def, e]
  exact running_sum (N := 8191) A a hA _ n

include h0 h1 in
theorem small (n : ℕ) (h : n ≤ 8192) : fl a n < 2 ^ 31 := by have := fl_le h0 h1 n; omega

variable (hB : ∀ n : Fin 8192, B (ix1 n) = ((pre a (n.val + 1) : ℝ) : EReal))

include h0 h1 hB in
theorem wholes_at : Rows (wholes B) a := fun n => by
  have h := hB n
  pointwise [wholes]
  rw [h]
  exact fptosi_floor _ (pre_nonneg h0 _) (small h0 h1 _ (by omega))

variable (hI : Rows I a)

include hI in
theorem steps_at (n : Fin 8192) : steps I (ix1 n) = IntOp.cmpi .ne (BitVec.ofNat 32 (fl a (n.val + 1))) (BitVec.ofNat 32 (fl a n.val)) := by
  have h := hI
  unfold Rows at h
  pointwise [steps]
  rw [h]
  refine congrArg (IntOp.cmpi .ne _) ?_
  by_cases hn : n.val < 1
  · rw [dif_pos hn, show n.val = 0 by omega, fl_zero]
  · rw [dif_neg hn, h]
    show BitVec.ofNat 32 (fl a (n.val - 1 + 1)) = _
    rw [show n.val - 1 + 1 = n.val by omega]

include hA h0 h1 hB hI in
theorem mains_at (n : Fin 8192) : mains A B I (ix1 n) = ((main a n.val : ℝ) : EReal) := by
  have e := steps_at hI n
  have eA := hA n
  have eB := hB n
  have eI := hI n
  unfold mains parts
  generalize steps I = S at e
  pointwise []
  rw [e, eA, eB, eI]
  exact main_select _ (small h0 h1 _ (by omega)) (small h0 h1 _ (by omega))

include hA h0 h1 hB hI in
theorem rests_at (n : Fin 8192) : rests A B I (ix1 n) = ((Warp.rest a n.val : ℝ) : EReal) := by
  have e := steps_at hI n
  have eA := hA n
  have eB := hB n
  have eI := hI n
  unfold rests parts
  generalize steps I = S at e
  pointwise []
  rw [e, eA, eB, eI]
  exact rest_select _ (small h0 h1 _ (by omega)) (small h0 h1 _ (by omega))

open Classical in
/-- The row that takes the second share, as a number. -/
def above (a : ℕ → ℝ) (n : ℕ) : ℕ := if Crosses a n then fl a (n + 1) - 1 else fl a (n + 1)

include h0 h1 hI in
theorem aboves_at (n : Fin 8192) : aboves I (ix1 n) = BitVec.ofNat 32 (above a n.val) := by
  have e := steps_at hI n
  have eI := hI n
  have hn := small h0 h1 (n.val + 1) (by omega)
  have hp := small h0 h1 n.val (by omega)
  unfold aboves
  generalize steps I = S at e
  pointwise []
  rw [e, eI]
  unfold above
  by_cases h : Crosses a n.val
  · have hm := fl_mono h0 (Nat.le_succ n.val)
    have hx : fl a (n.val + 1) ≠ fl a n.val := h
    rw [Nat.succ_eq_add_one] at hm
    rw [if_pos h, (crosses_word n.val hn hp).mpr h]
    show BitVec.ofNat 32 (fl a (n.val + 1)) - 1#32 = _
    apply BitVec.eq_of_toNat_eq
    rw [BitVec.toNat_sub, BitVec.toNat_ofNat, BitVec.toNat_ofNat, BitVec.toNat_ofNat]
    omega
  · rw [if_neg h, bit_zero fun e => h ((crosses_word n.val hn hp).mp e)]; rfl

variable {R : ℕ → ℕ}

theorem wrap_at (hR : ∀ n : Fin 8192, I (ix1 n) = BitVec.ofNat 32 (R n.val)) (hs : ∀ n < 8192, R n < 2 ^ 31) (n : Fin 8192) :
    wrap I (ix1 n) = BitVec.ofNat 32 (R n.val) := by
  have e := hR n
  have hn := hs n.val n.isLt
  pointwise [wrap]
  rw [e]
  exact Routing.wrap_of_lt _ _ (by rw [BitVec.toNat_ofNat]; omega)

theorem places_at (hR : ∀ n : Fin 8192, I (ix1 n) = BitVec.ofNat 32 (R n.val)) (hs : ∀ n < 8192, R n < 2 ^ 31) :
    Columns (places I) R := fun n => by
  have e := wrap_at hR hs n
  have e' := wrap_at (I := iotaInDim S8192 32 0) (R := fun n => n) (fun n => rfl) (fun n hn => by omega) n
  unfold places
  generalize wrap I = P at e
  generalize wrap (iotaInDim S8192 32 0) = Q at e'
  constructor
  · pointwise []
    exact e
  · pointwise []
    exact e'

include hA h0 h1 hB hI in
/-- The table at an entry. -/
theorem table_at (r k : Fin 8192) : table A B I (ix2 r k)
    = (if fl a (k.val + 1) = r.val then ((main a k.val : ℝ) : EReal) else 0) + if above a k.val = r.val then ((Warp.rest a k.val : ℝ) : EReal) else 0 := by
  have hs : ∀ n < 8192, fl a (n + 1) < 2 ^ 31 := fun n hn => small h0 h1 _ (by omega)
  have hs' : ∀ n < 8192, above a n < 2 ^ 31 := fun n hn => by
    have := hs n hn
    unfold above
    split <;> omega
  unfold table
  rw [add_at _ _ (places_at (aboves_at h0 h1 hI) hs') hs', set_at _ _ (places_at (R := fun n => fl a (n + 1)) hI hs) hs,
    mains_at hA h0 h1 hB hI, rests_at hA h0 h1 hB hI]
  congr 2
  pointwise []

include hA h0 h1 hB hI in
/-- The same in the kernel's terms: the row above the entry's own takes the second share. -/
theorem table_factor (r k : Fin 8192) : table A B I (ix2 r k)
    = (if fl a (k.val + 1) = r.val then ((main a k.val : ℝ) : EReal) else 0) + if fl a (k.val + 1) = r.val + 1 then ((Warp.rest a k.val : ℝ) : EReal) else 0 := by
  rw [table_at hA h0 h1 hB hI]
  congr 1
  unfold above
  by_cases h : Crosses a k.val
  · have hm := fl_mono h0 (Nat.le_succ k.val)
    have hx : fl a (k.val + 1) ≠ fl a k.val := h
    rw [Nat.succ_eq_add_one] at hm
    rw [if_pos h]
    exact if_congr (by omega) rfl rfl
  · rw [if_neg h, rest_of_not _ h, EReal.coe_zero, ite_self, ite_self]

theorem product_at (T : FVec Ideal S8192x8192 .f32) (X : FVec Ideal S8192x64 .f32) (r : Fin 8192) (d : Fin 64) :
    product T X (ix2 r d) = ∑ k : Fin 8192, T (ix2 r k) * X (ix2 k d) := by
  pointwise [product]

end Cert.Proof.RefValue

end
-- ==== Proof.Equal.lean ====
/- The kernel's result and the reference's are equal at every entry. -/
module

public import proofs.«01_k».proof.Proof.KernelValue
public import proofs.«01_k».proof.Proof.RefValue

@[expose] public section

set_option maxRecDepth 16384

noncomputable section

namespace Cert.Proof.Equal

open Idealize.ShloMosaic Idealize.ShloMosaic.TcCoe
open Cert.Proof.Warp Cert.Proof.RefValue

/-- The reference's product at an entry. -/
theorem product_term (X : FVec Ideal Cert.ReferenceIdeal.S8192x64 .f32) (W : FVec Ideal Cert.ReferenceIdeal.S64x1 .f32) (r : Fin 8192) (d : Fin 64) :
    product (table (weights X W) (sums (weights X W)) (wholes (sums (weights X W)))) X (ix2 r d)
      = ∑ i : Fin 8192, KernelValue.term X (Between.seq X W) r.val d i.val := by
  have h0 : ∀ n, 0 ≤ Between.seq X W n := Between.seq_nonneg X W
  have h1 : ∀ n, Between.seq X W n ≤ 1 := Between.seq_le_one X W
  have hA : ∀ n : Fin 8192, weights X W (ix1 n) = ((Between.seq X W n.val : ℝ) : EReal) := fun n => by
    rw [weights_at, Between.seq_of_lt]
  have hB := sums_at hA
  rw [product_at]
  refine Finset.sum_congr rfl fun k _ => ?_
  rw [table_factor hA h0 h1 hB (wholes_at h0 h1 hB)]
  unfold KernelValue.term Stage2Value.factor
  rw [dif_pos k.isLt]

/-- The reference's result at an entry. -/
theorem reference_at (m : (ℓ : Loc Cert.ReferenceIdeal.nD Cert.ReferenceIdeal.τ Cert.ReferenceIdeal.sig) → Buf (Elt Ideal) ℓ) (c : Dev Cert.ReferenceIdeal.nD)
    (X : FVec Ideal Cert.ReferenceIdeal.S8192x64 .f32) (W : FVec Ideal Cert.ReferenceIdeal.S64x1 .f32)
    (hX : m (c, Cert.ReferenceIdeal.main_arg0) = X) (hW : m (c, Cert.ReferenceIdeal.main_arg1) = W) (r : Fin 8192) (d : Fin 64) :
    Cert.ReferenceIdeal.Value.res_main_v54 m c (ix2 r d) = (∑ i : Fin 8192, KernelValue.term X (Between.seq X W) r.val d i.val : EReal) := by
  rw [staged, hX, hW]
  exact product_term X W r d

/-- At arguments that agree, the two programs' results are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hfit : Run.Fit m) (c : Dev Cert.KernelIdeal.nD)
    (e0 : m' (c, Cert.ReferenceIdeal.main_arg0) = m (c, Cert.KernelIdeal.main_arg0)) (e1 : m' (c, Cert.ReferenceIdeal.main_arg1) = m (c, Cert.KernelIdeal.main_arg1)) :
    Cert.ReferenceIdeal.Value.res_main_v54 m' c = Cert.KernelIdeal.Gen.V5 m (Run.outs m hfit) c Cert.KernelIdeal.main_v9 := by
  funext i
  obtain ⟨r, d, rfl⟩ : ∃ (r : Fin 8192) (d : Fin 64), i = ix2 r d := ⟨i 0, i 1, by funext b; match b with | ⟨0, _⟩ => rfl | ⟨1, _⟩ => rfl⟩
  exact (reference_at m' c _ _ e0 e1 r d).trans (KernelValue.result_at m c hfit r d).symm

end Cert.Proof.Equal

end
-- ==== Proof.PoolBody.lean ====
module

public import proofs.«01_k».proof.Proof.Gen.Pool.Launch
public import proofs.«01_k».proof.Proof.Gen.Pool.Skeleton
public import proofs.«01_k».proof.Proof.Gen.Pool.Points
public import Idealize.ShloMosaic.Lib.Pipeline.FrameBody
public import Idealize.ShloMosaic.Lib.Tactic
public import Idealize.ShloMosaic.Lib.WordCmp
public import Idealize.ShloMosaic.Lib.Pipeline.Value

@[expose] public section

set_option maxRecDepth 16384

noncomputable section

namespace Cert.Proof.Pool0

open Cert.Pool Cert.Pool.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word the body reads at grid point `i`: entry `i` of the table of block starts. -/
def word (x5 : Vec F S16 .i32) (i : grid0.Coords) : BitVec 32 :=
  View.ld x5 (Rect.unit (s := S16) (k0_off1 i) S1.size (k0_off1_inb i)) (Shape.Idx.first (numel1_S1.symm ▸ Nat.one_pos))

/-- The window's first row as the body computes it from the word. -/
def base (w : BitVec 32) : BitVec 32 := Scalar.subi (Scalar.maxsi w 1#32) 1#32

/-- The row numbers of the window, one column per entry of a sub-block. -/
abbrev rows : IVec S528x128 32 := iota .tc S528x128 32 [0] iota_S528x128_d0_w32

abbrev q0 : Rect S1x4x128 := Rect.unit (s := S1x4x128) ![0, 0, 0] S1x1x128.size inb_S1x4x128_S1x1x128_0_0_0
abbrev q1 : Rect S1x4x128 := Rect.unit (s := S1x4x128) ![0, 1, 0] S1x1x128.size inb_S1x4x128_S1x1x128_0_1_0
abbrev q2 : Rect S1x4x128 := Rect.unit (s := S1x4x128) ![0, 2, 0] S1x1x128.size inb_S1x4x128_S1x1x128_0_2_0
abbrev q3 : Rect S1x4x128 := Rect.unit (s := S1x4x128) ![0, 3, 0] S1x1x128.size inb_S1x4x128_S1x1x128_0_3_0
abbrev p0 : Rect S512x64 := Rect.unit (s := S512x64) ![0, 0] S128x64.size inb_S512x64_S128x64_0_0
abbrev p1 : Rect S512x64 := Rect.unit (s := S512x64) ![128, 0] S128x64.size inb_S512x64_S128x64_128_0
abbrev p2 : Rect S512x64 := Rect.unit (s := S512x64) ![256, 0] S128x64.size inb_S512x64_S128x64_256_0
abbrev p3 : Rect S512x64 := Rect.unit (s := S512x64) ![384, 0] S128x64.size inb_S512x64_S128x64_384_0
abbrev win (w : BitVec 32) (hw : k0_chk1 w) : Rect S8720x64 := Rect.unit (s := S8720x64) (k0_off2 w) S528x64.size (k0_off2_inb w hw)
abbrev all : Rect S8720x64 := Rect.unit (s := S8720x64) ![0, 0] S8720x64.size inb_S8720x64_S8720x64_0_0

/-- The window's sum over the first two sub-blocks. -/
def sum01 (w : BitVec 32) (x1 : Vec F S512x64 .f32) (x2 : Vec F S1x4x128 .i32) (x3 : Vec F S1x4x128 .f32) (x4 : Vec F S1x4x128 .f32) : FVec F S528x64 .f32 :=
  k0_pay4 (base w) rows (k0_pay3 w (View.ld x2 q0) (View.ld x3 q0) (View.ld x4 q0) (View.ld x1 p0)) (View.ld x2 q1) (View.ld x3 q1) (View.ld x4 q1) (View.ld x1 p1)

/-- The window's sum over the first three sub-blocks. -/
def sum02 (w : BitVec 32) (x1 : Vec F S512x64 .f32) (x2 : Vec F S1x4x128 .i32) (x3 : Vec F S1x4x128 .f32) (x4 : Vec F S1x4x128 .f32) : FVec F S528x64 .f32 :=
  k0_pay9 rows (sum01 w x1 x2 x3 x4) (k0_pay5 (base w) (View.ld x2 q2)) (k0_pay6 (View.ld x4 q2)) (k0_pay7 (base w) rows (View.ld x2 q2))
    (Scalar.ofBits .f32 0x00000000#32) (k0_pay8 (View.ld x3 q2)) (View.ld x1 p2)

/-- The accumulator after the body at a point whose word is `w`, from its contents `z` before: the window's rows are added to. -/
def pooled (w : BitVec 32) (hw : k0_chk1 w) (x1 : Vec F S512x64 .f32) (x2 : Vec F S1x4x128 .i32) (x3 : Vec F S1x4x128 .f32) (x4 : Vec F S1x4x128 .f32)
    (z : Vec F S8720x64 .f32) : Vec F S8720x64 .f32 :=
  View.canon [⟨win w hw, k0_pay1 (sum02 w x1 x2 x3 x4) (k0_pay10 (base w) rows (View.ld x2 q3) (View.ld x3 q3) (View.ld x4 q3) (View.ld x1 p3)) (View.ld z (win w hw))⟩,
    ⟨all, z⟩]

theorem zero_off : (![0, 0] : Fin 2 → ℕ) = fun _ => 0 := by funext a; fin_cases a <;> rfl

/-- A last write over writes `L` reads as the canon of that write over the whole array at what the writes `L` read. -/
theorem read_over (v : View sig .tc .vmem S8720x64 .f32) (f : v.ty.Contents (Elt F)) (r : Rect S8720x64) (p : r.shape.Idx → Elt F .f32)
    (L : List (View.Piece (Elt F) S8720x64 .f32)) (z : Vec F S8720x64 .f32) (hz : v.read (Elt F) (v.writes (Elt F) f L) = z) :
    v.read (Elt F) (v.writes (Elt F) f (⟨r, p⟩ :: L)) = View.canon [⟨r, p⟩, ⟨all, z⟩] := by
  subst hz
  funext y
  by_cases hy : y ∈ r.set
  · obtain ⟨x, rfl⟩ : ∃ x, r.emb x = y := r.exists_idx_of_mem hy
    rw [View.read_writes_cons_emb, View.canon_cons_emb]
  · rw [View.writes_cons, View.read_slice_write_of_not_mem r _ _ _ (by rwa [Rect.map_emb_univ]), View.canon_cons_of_not_mem _ _ hy,
      View.canon_cons_unit_zero zero_off]

/-- The accumulator zeroed reads as zero. -/
theorem read_zeroed (v : View sig .tc .vmem S8720x64 .f32) :
    v.read (Elt F) (v.writes (Elt F) v.junk [⟨all, k0_pay2⟩]) = k0_pay2 := by
  rw [View.read_writes_junk_eq_canon, View.canon_unit_zero zero_off]

set_option maxHeartbeats 4000000 in
/-- The body at the first grid point: the accumulator is zeroed, then the window's rows are added. -/
theorem body_first (c : Dev nD) (E : Set ℕ) (i : grid0.Coords) (hi : Scalar.cmpi .ne (Scalar.extui (Scalar.cmpi .eq (BitVec.ofNat 32 (i 0).val) 0#32) : BitVec 32) 0#32 = 1#1)
    (arg1 : Memref sig .tc .vmem S512x64 .f32) (harg1 : arg1.IsWhole) (arg2 : Memref sig .tc .vmem S1x4x128 .i32) (harg2 : arg2.IsWhole)
    (arg3 : Memref sig .tc .vmem S1x4x128 .f32) (harg3 : arg3.IsWhole) (arg4 : Memref sig .tc .vmem S1x4x128 .f32) (harg4 : arg4.IsWhole)
    (arg5 : Memref sig .tc .smem S16 .i32) (harg5 : arg5.IsWhole) (arg6 : Memref sig .tc .vmem S8720x64 .f32) (harg6 : arg6.IsWhole)
    (x1 : Vec F S512x64 .f32) (x2 : Vec F S1x4x128 .i32) (x3 : Vec F S1x4x128 .f32) (x4 : Vec F S1x4x128 .f32) (x5 : Vec F S16 .i32)
    (hw : k0_chk1 (word x5 i)) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (pooled (word x5 i) hw x1 x2 x3 x4 k0_pay2)) -∗ K ⟨⟩))
      ⊢ wp frame (wpE (defs₀ (F := F)) Variants.none c none) E (cc0__stage2_body i arg1 harg1 arg2 harg2 arg3 harg3 arg4 harg4 arg5 harg5 arg6 harg6) K := by
  simp only [cc0__stage2_body_eq_skeleton]; unfold cc0__stage2_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec (disch := first | exact hi | exact hw)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  have hz := read_zeroed (F := F) arg6.view
  refine (read_over arg6.view _ _ _ _ _ hz).trans ?_
  unfold pooled
  rw [show View.ld (k0_pay2 (F := F)) (win (word (View.read (Elt F) arg5.view f5) i) hw) = View.ld (arg6.view.read (Elt F) (arg6.view.writes (Elt F) arg6.view.junk [⟨all, k0_pay2⟩])) (win (word (View.read (Elt F) arg5.view f5) i) hw) from by rw [hz]]
  rfl

set_option maxHeartbeats 4000000 in
/-- The body at a later grid point: the window's rows are added to the accumulator as the point before left it. -/
theorem body_rest (c : Dev nD) (E : Set ℕ) (i : grid0.Coords) (hi : ¬ Scalar.cmpi .ne (Scalar.extui (Scalar.cmpi .eq (BitVec.ofNat 32 (i 0).val) 0#32) : BitVec 32) 0#32 = 1#1)
    (arg1 : Memref sig .tc .vmem S512x64 .f32) (harg1 : arg1.IsWhole) (arg2 : Memref sig .tc .vmem S1x4x128 .i32) (harg2 : arg2.IsWhole)
    (arg3 : Memref sig .tc .vmem S1x4x128 .f32) (harg3 : arg3.IsWhole) (arg4 : Memref sig .tc .vmem S1x4x128 .f32) (harg4 : arg4.IsWhole)
    (arg5 : Memref sig .tc .smem S16 .i32) (harg5 : arg5.IsWhole) (arg6 : Memref sig .tc .vmem S8720x64 .f32) (harg6 : arg6.IsWhole)
    (x1 : Vec F S512x64 .f32) (x2 : Vec F S1x4x128 .i32) (x3 : Vec F S1x4x128 .f32) (x4 : Vec F S1x4x128 .f32) (x5 : Vec F S16 .i32) (x6 : Vec F S8720x64 .f32)
    (hw : k0_chk1 (word x5 i)) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (pooled (word x5 i) hw x1 x2 x3 x4 x6)) -∗ K ⟨⟩))
      ⊢ wp frame (wpE (defs₀ (F := F)) Variants.none c none) E (cc0__stage2_body i arg1 harg1 arg2 harg2 arg3 harg3 arg4 harg4 arg5 harg5 arg6 harg6) K := by
  simp only [cc0__stage2_body_eq_skeleton]; unfold cc0__stage2_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5
  sl_exec (disch := first | exact hi | exact hw)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  subst hf6
  exact (read_over _ _ _ _ [] _ rfl).trans rfl

end Cert.Proof.Pool0

end
-- ==== Proof.PoolFrame.lean ====
/- The pooling call on its own: the accumulator is carried in the result's staging buffer from point to point. -/
module

public import proofs.«01_k».proof.Proof.PoolBody
public import proofs.«01_k».proof.Proof.Gen.Pool.Frame
public import proofs.«01_k».proof.Proof.Gen.Pool
public import proofs.«01_k».proof.Proof.Gen.Pre_starts_in_range
public import proofs.«01_k».proof.Proof.Words
public import proofs.«01_k».proof.Defs
public import Idealize.ShloMosaic.Lib.ReduceAll
public import Idealize.ShloMosaic.Lib.Claim

@[expose] public section

set_option maxRecDepth 16384

noncomputable section

namespace Cert.Proof.Pool0

open Cert.Pool Cert.Pool.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The word the body reads at point `t`. -/
def wordAt (c : Dev nD) (t : Fin cfg0.N) : BitVec 32 := word (F := F) (iblk V c 4 t) (grid0.coords t)

/-- At every point the window of rows lies inside the accumulator. -/
def Fits : Prop := ∀ c t, k0_chk1 (wordAt V c t)

variable (hfit : Fits V)

/-- The accumulator after the first `n` points. -/
def hold (c : Dev nD) : ℕ → Vec F S8720x64 .f32
  | 0 => k0_pay2
  | n + 1 => if h : n < cfg0.N then
      pooled (wordAt V c ⟨n, h⟩) (hfit c ⟨n, h⟩) (iblk V c 0 ⟨n, h⟩) (iblk V c 1 ⟨n, h⟩) (iblk V c 2 ⟨n, h⟩) (iblk V c 3 ⟨n, h⟩) (hold c n)
    else hold c n

theorem hold_succ (c : Dev nD) (t : Fin cfg0.N) : hold V hfit c (t.val + 1)
    = pooled (wordAt V c t) (hfit c t) (iblk V c 0 t) (iblk V c 1 t) (iblk V c 2 t) (iblk V c 3 t) (hold V hfit c t.val) := by
  rw [hold, dif_pos t.isLt]

/-- The proof data: inputs' buffers at their blocks, the result's at the accumulator. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => hold V hfit c (t.val + 1)
  Φ _ := Pipeline.ΦA spec0 c
  q _ := fullShare
  owed _ := 0

theorem A_eq (c : Dev nD) (w : Fin cfg0.W) : (dat V hfit c).A w = V c (Pipeline.arrRef spec0 w) := by dsimp only [dat]
theorem after_0 (c : Dev nD) (t : Fin cfg0.N) : (dat V hfit c).after 0 t = iblk V c 0 t := by dsimp only [dat]
theorem after_1 (c : Dev nD) (t : Fin cfg0.N) : (dat V hfit c).after 1 t = iblk V c 1 t := by dsimp only [dat]
theorem after_2 (c : Dev nD) (t : Fin cfg0.N) : (dat V hfit c).after 2 t = iblk V c 2 t := by dsimp only [dat]
theorem after_3 (c : Dev nD) (t : Fin cfg0.N) : (dat V hfit c).after 3 t = iblk V c 3 t := by dsimp only [dat]
theorem after_4 (c : Dev nD) (t : Fin cfg0.N) : (dat V hfit c).after 4 t = iblk V c 4 t := by dsimp only [dat]
theorem after_5 (c : Dev nD) (t : Fin cfg0.N) : (dat V hfit c).after 5 t = hold V hfit c (t.val + 1) := by dsimp only [dat]

theorem before_0 (c : Dev nD) (t : Fin cfg0.N) (d) : (dat V hfit c).before 0 t d = iblk V c 0 t :=
  ((dat V hfit c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V hfit c).before 1 t d = iblk V c 1 t :=
  ((dat V hfit c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V hfit c).before 2 t d = iblk V c 2 t :=
  ((dat V hfit c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V hfit c).before 3 t d = iblk V c 3 t :=
  ((dat V hfit c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V hfit c).before 4 t d = iblk V c 4 t :=
  ((dat V hfit c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- At a later point the result's buffer holds the accumulator as the point before left it. -/
theorem before_5 (c : Dev nD) (t : Fin cfg0.N) (ht : t.val ≠ 0) (d) : (dat V hfit c).before 5 t d = hold V hfit c t.val := by
  have hN : t.val < 16 := lt_of_lt_of_eq t.isLt N_0
  rw [(dat V hfit c).before_out_kept 5 rfl t ht
    (by rw [Bool.eq_false_iff, Ne, flush0_5]; dsimp only; omega) (fun _ => rfl) (fun _ _ => rfl) d, after_5]
  congr 1; dsimp only; omega

/-- The body's test of its grid coordinate is true at the first point alone. -/
theorem first_iff (t : Fin cfg0.N) :
    Scalar.cmpi .ne (Scalar.extui (Scalar.cmpi .eq (BitVec.ofNat 32 ((grid0.coords t) 0).val) 0#32) : BitVec 32) 0#32 = 1#1 ↔ t.val = 0 := by
  revert t; decide

def bodyPre (c : Dev nD) (t : Fin cfg0.N) : sProp 𝕄 :=
  iprop((dat V hfit c).Φ t.castSucc ∗ (dat V hfit c).owesAt () t.castSucc
    ∗ (∃ d, owns (c : Thread nD τ) (st0_0 t) fullShare ((dat V hfit c).before 0 t d))
    ∗ (∃ d, owns (c : Thread nD τ) (st0_1 t) fullShare ((dat V hfit c).before 1 t d))
    ∗ (∃ d, owns (c : Thread nD τ) (st0_2 t) fullShare ((dat V hfit c).before 2 t d))
    ∗ (∃ d, owns (c : Thread nD τ) (st0_3 t) fullShare ((dat V hfit c).before 3 t d))
    ∗ (∃ d, owns (c : Thread nD τ) (st0_4 t) fullShare ((dat V hfit c).before 4 t d))
    ∗ (∃ d, owns (c : Thread nD τ) (st0_5 t) fullShare ((dat V hfit c).before 5 t d)))

def bodyPost (c : Dev nD) (t : Fin cfg0.N) : sProp 𝕄 :=
  iprop((dat V hfit c).Φ t.succ ∗ (dat V hfit c).owesAt () t.succ
    ∗ owns (c : Thread nD τ) (st0_0 t) fullShare ((dat V hfit c).after 0 t)
    ∗ owns (c : Thread nD τ) (st0_1 t) fullShare ((dat V hfit c).after 1 t)
    ∗ owns (c : Thread nD τ) (st0_2 t) fullShare ((dat V hfit c).after 2 t)
    ∗ owns (c : Thread nD τ) (st0_3 t) fullShare ((dat V hfit c).after 3 t)
    ∗ owns (c : Thread nD τ) (st0_4 t) fullShare ((dat V hfit c).after 4 t)
    ∗ owns (c : Thread nD τ) (st0_5 t) fullShare ((dat V hfit c).after 5 t))

/-- The body at any point. -/
theorem sound_body (c : Dev nD) (t : Fin cfg0.N) :
    bodyPre V hfit c t ⊢ wp frame (wpE (defs₀ (F := F)) Variants.none c none) Set.univ (bodyAt0 t) (fun _ => bodyPost V hfit c t) := by
  unfold bodyPre bodyPost bodyAt0
  simp only [before_0, before_1, before_2, before_3, before_4]
  rw [show (dat V hfit c).Φ t.succ = (dat V hfit c).Φ t.castSucc from rfl,
    show (dat V hfit c).owesAt () t.succ = (dat V hfit c).owesAt () t.castSucc from rfl,
    after_0, after_1, after_2, after_3, after_4, after_5, hold_succ]
  iintro ⟨HΦ, Ho, ⟨%d0, H0⟩, ⟨%d1, H1⟩, ⟨%d2, H2⟩, ⟨%d3, H3⟩, ⟨%d4, H4⟩, ⟨%d5, H5⟩⟩
  by_cases ht : t.val = 0
  · rw [show hold V hfit c t.val = k0_pay2 from by rw [ht]; rfl]
    iapply (body_first c Set.univ (grid0.coords t) ((first_iff t).mpr ht) _ _ _ _ _ _ _ _ _ _ _ _
      (iblk V c 0 t) (iblk V c 1 t) (iblk V c 2 t) (iblk V c 3 t) (iblk V c 4 t) (hfit c t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [before_5 V hfit c t ht]
    iapply (body_rest c Set.univ (grid0.coords t) (fun h => ht ((first_iff t).mp h)) _ _ _ _ _ _ _ _ _ _ _ _
      (iblk V c 0 t) (iblk V c 1 t) (iblk V c 2 t) (iblk V c 3 t) (iblk V c 4 t) (hold V hfit c t.val) (hfit c t) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) V hfit c) (defs₀ (F := F)) Variants.none () Set.univ := fun t => by
  rw [bigSep_W0, bigSep_W0, defs₀_row]
  exact triple_restated (sound_body V hfit c t) rfl .rfl fun _ => .rfl

/-! ## The run, and the frame under the precondition -/

variable (m : (ℓ : Loc nD τ sig) → Buf (Elt F) ℓ) (ρ : Dev nD → PrngReg)

set_option backward.isDefEq.respectTransparency.types false in
/-- The run: the arrays end as the proof data says and every counter is zero. -/
theorem run_main (hfit : Fits (Gen.V m)) : θ_run defs (onTc (τ := τ) (main (F := F))) (s₀ m ρ)
    (fun r => (Pipeline.FramePost cfgs (fun (_ : Fin 1) c => dat (Gen.V m) hfit c) 0 (Gen.V m)) r ∧ r.2.sem = fun _ => 0) :=
  Pipeline.θ_run_frame (Q' := _) cfgs (fun (_ : Fin 1) c => dat (Gen.V m) hfit c) (0 : Fin 1) launch0 defs₀ Variants.none m ρ main
    (hbody := fun c => (body_obligation (Gen.V m) hfit c).loose) (hshare := fun c => (dat (Gen.V m) hfit c).share_full fun _ => rfl)
    (howed := fun _ _ => rfl) (V := Gen.V m) (hmain := hmain m Variants.none) (hA := A_eq (Gen.V m) hfit) (hΦ := fun _ _ => rfl)

/-- A word at most the row count starts a window that fits. -/
theorem fits_of_le (w : BitVec 32) (h : w.toNat ≤ 8192) : k0_chk1 w := by
  intro a
  have e := Words.base_toNat w (by omega)
  fin_cases a
  · show (Scalar.subi (Scalar.maxsi w 1#32) 1#32).toNat + 528 ≤ 8720
    rw [e]; omega
  · show 0 + 64 ≤ 64
    omega

end Cert.Proof.Pool0

namespace Cert.Proof.Pool0

open Cert.Pool Cert.Pool.Gen

open Idealize.ShloMosaic Idealize.ShloMosaic.TcCoe
open Idealize.SL.Sem

instance : Subsingleton Cert.Pre_starts_in_range.S_.Idx := ⟨fun _ _ => funext fun a => a.elim0⟩

/-- The precondition bounds every word of the table. -/
theorem word_le (m : (ℓ : Loc nD τ sig) → Buf (Elt Bits) ℓ) (h : Cert.Pre_Pool m) (c : Dev nD) (y : S16.Idx) :
    (m ((c : Thread nD τ).loc main_arg4) y : BitVec 32).toNat ≤ 8192 := by
  have e := congrFun (h c) (fun a => a.elim0)
  have e' := Host.reduce_andi_all _ _ _ _ _ e y
  simp only [andi, cmpi, broadcastInDim, constantI, IntOp.cmpi] at e'
  have hb (p q : Bool) (h : IntOp.andi (BitVec.ofBool p) (BitVec.ofBool q) = 1#1) : p = true ∧ q = true := by
    revert h; cases p <;> cases q <;> decide
  obtain ⟨hge, hle⟩ := hb _ _ e'
  simp only [BitVec.sle, decide_eq_true_eq, BitVec.toInt, BitVec.toNat_ofNat] at hge hle
  omega

theorem fits_of_pre (m : (ℓ : Loc nD τ sig) → Buf (Elt Bits) ℓ) (h : Cert.Pre_Pool m) : Fits (Gen.V m) := by
  intro c t
  refine fits_of_le _ ?_
  unfold wordAt word View.ld iblk
  rw [View.read_apply, cast_eq]
  exact word_le m h c _

/-- The pooling call runs and leaves its arguments, every counter at zero. -/
theorem quiescent : Cert.quiescent_Pool (hPool := Gen.facts) (hPre_starts_in_range := Cert.Pre_starts_in_range.Gen.facts) := fun m ρ h =>
  θ_run_and (frame_of m ρ (fun _ c => dat (Gen.V m) (fits_of_pre m h) c) (A_eq (Gen.V m) (fits_of_pre m h))
      ((θ_run defs _ _).mono (fun _ h => h.1) (run_main m ρ (fits_of_pre m h))))
    ((θ_run defs _ _).mono (fun _ h => h.2) (run_main m ρ (fits_of_pre m h)))

end Cert.Proof.Pool0
-- ==== Proof.lean ====
/- The claims, put together: the whole kernel's run and the plain reference's, and the two calls by themselves. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Weights
public import proofs.«01_k».proof.Proof.Gen.Weights.Skeleton
public import proofs.«01_k».proof.Proof.Gen.Weights.Launch
public import proofs.«01_k».proof.Proof.Gen.Weights.Points
public import proofs.«01_k».proof.Proof.Gen.Weights.Frame
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.Pre_starts_in_range
public import proofs.«01_k».proof.Proof.Gen.ReferenceIdeal.Run
public import proofs.«01_k».proof.Proof.Between
public import proofs.«01_k».proof.Proof.Equal
public import proofs.«01_k».proof.Proof.PoolFrame
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel over the extended reals runs and leaves its arguments, every counter at zero. -/
theorem kernel_runs : Cert.quiescent_KernelIdeal (hKernelIdeal := Cert.KernelIdeal.Gen.facts) := fun m g _ =>
  (θ_run Cert.KernelIdeal.defs _ _).mono (fun _ h => ⟨fun c => (h.1 c).2, h.2⟩) (Run.run_result m (Between.fit m) g)

/-- So does the reference. -/
theorem reference_runs : Cert.quiescent_ReferenceIdeal (hReferenceIdeal := Cert.ReferenceIdeal.Gen.facts)  := fun m g _ =>
  (θ_run Cert.ReferenceIdeal.defs _ _).mono (fun _ h => ⟨fun c => (h c).2, sem_eq_zero_of_no_sems (by decide) _⟩) (Cert.ReferenceIdeal.Value.run m g)

/-- From arguments that agree, the kernel and the reference end with equal results. -/
theorem results_agree : Cert.algebraic_KernelIdeal_ReferenceIdeal (hKernelIdeal := Cert.KernelIdeal.Gen.facts) (hReferenceIdeal := Cert.ReferenceIdeal.Gen.facts) :=
  fun m g m' g' _ hagree => ⟨fun c => Cert.KernelIdeal.Gen.V5 m (Run.outs m (Between.fit m)) c Cert.KernelIdeal.main_v9,
    (θ_run Cert.KernelIdeal.defs _ _).mono (fun _ h c => h.1 c) (Run.run_result m (Between.fit m) g),
    (θ_run Cert.ReferenceIdeal.defs _ _).mono
      (fun _ h c => ⟨(h c).1.trans (Equal.results_eq m m' (Between.fit m) c (hagree c).1 (hagree c).2), (h c).2⟩)
      (Cert.ReferenceIdeal.Value.run m' g')⟩

theorem claim : Cert.Claim := ⟨Cert.KernelIdeal.Gen.facts, Cert.ReferenceIdeal.Gen.facts, Cert.Weights.Gen.facts, Cert.Pool.Gen.facts, Cert.Pre_starts_in_range.Gen.facts,
  kernel_runs, reference_runs, fun m g _ => Cert.Weights.Gen.frame m g, Pool0.quiescent, results_agree⟩

end Cert.Proof

end
